-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed_KernelIdeal [hPre_well_formed_KernelIdeal : Cert.Pre_well_formed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed_ReferenceIdeal [hPre_well_formed_ReferenceIdeal : Cert.Pre_well_formed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed_KernelIdeal [hKernelIdeal : Cert.KernelIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed_ReferenceIdeal [hReferenceIdeal : Cert.ReferenceIdeal.Facts] [hPre_well_formed_ReferenceIdeal : Cert.Pre_well_formed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_well_formed_KernelIdeal [hKernelIdeal : Cert.KernelIdeal.Facts] [hReferenceIdeal : Cert.ReferenceIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 4, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 4, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed_KernelIdeal : Cert.Pre_well_formed_KernelIdeal.Facts) (hPre_well_formed_ReferenceIdeal : Cert.Pre_well_formed_ReferenceIdeal.Facts),
    quiescent_Kernel (hKernel := hKernel)
    ∧ quiescent_KernelIdeal (hKernelIdeal := hKernelIdeal)
    ∧ quiescent_KernelIdeal_pre_well_formed_KernelIdeal (hKernelIdeal := hKernelIdeal) (hPre_well_formed_KernelIdeal := hPre_well_formed_KernelIdeal)
    ∧ quiescent_ReferenceIdeal (hReferenceIdeal := hReferenceIdeal)
    ∧ quiescent_ReferenceIdeal_pre_well_formed_ReferenceIdeal (hReferenceIdeal := hReferenceIdeal) (hPre_well_formed_ReferenceIdeal := hPre_well_formed_ReferenceIdeal)
    ∧ preserves_Kernel_KernelIdeal
    ∧ algebraic_KernelIdeal_ReferenceIdeal_pre_well_formed_KernelIdeal (hKernelIdeal := hKernelIdeal) (hReferenceIdeal := hReferenceIdeal) (hPre_well_formed_KernelIdeal := hPre_well_formed_KernelIdeal)
-- ==== Pre_well_formed_KernelIdeal.lean ====
abbrev S32x16x128 : Shape := ⟨3, ![32, 16, 128]⟩
abbrev S256x32x16x128 : Shape := ⟨4, ![256, 32, 16, 128]⟩
abbrev S32x256 : Shape := ⟨2, ![32, 256]⟩
abbrev S32x1 : Shape := ⟨2, ![32, 1]⟩
abbrev S_ : Shape := ⟨0, ![]⟩

class Facts : Prop where
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x16x128 : S_.BroadcastsInDim S32x16x128 (![] : Fin 0 → Fin S32x16x128.rank)
  reducesTo_S32x16x128_S_d0_1_2 : S32x16x128.ReducesTo [0, 1, 2] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32x1 : S_.BroadcastsInDim S32x1 (![] : Fin 0 → Fin S32x1.rank)
  reducesTo_S32x1_S_d0_1 : S32x1.ReducesTo [0, 1] S_
  reducesTo_S32x256_S_d0_1 : S32x256.ReducesTo [0, 1] S_

variable [Facts]

def fn_part1 {F : FTy → Type} [FloatOps F] (main_arg4 : IVec S32x1 32) (main_v2 : IVec S32x256 1) (main_v7 : IVec S32x256 1) (main_v16 : IVec S_ 1) (main_c_4 : IVec S_ 32) : IVec S_ 1 :=
  let main_v17 : IVec S32x1 32 := broadcastInDim S32x1 ![] bcast_S_S32x1 main_c_4
  let main_v18 : IVec S32x1 1 := cmpi .sge main_arg4 main_v17
  let main_c_5 : IVec S_ 1 := constantI S_ 1 1#1
  let main_v19 : IVec S_ 1 := (fun x v => Host.reduce IntOp.andi x v reducesTo_S32x1_S_d0_1 h_S_) main_v18 main_c_5
  let main_v20 : IVec S_ 1 := andi main_v16 main_v19
  let main_v21 : IVec S32x256 1 := noti main_v2
  let main_v22 : IVec S32x256 1 := ori main_v7 main_v21
  let main_c_6 : IVec S_ 1 := constantI S_ 1 1#1
  let main_v23 : IVec S_ 1 := (fun x v => Host.reduce IntOp.andi x v reducesTo_S32x256_S_d0_1 h_S_) main_v22 main_c_6
  let main_v24 : IVec S_ 1 := andi main_v20 main_v23
  main_v24

def fn {F : FTy → Type} [FloatOps F] (main_arg0 : FVec F S32x16x128 .f32) (main_arg1 : FVec F S256x32x16x128 .f32) (main_arg2 : FVec F S256x32x16x128 .f32) (main_arg3 : IVec S32x256 32) (main_arg4 : IVec S32x1 32) : IVec S_ 1 :=
  let main_v0 : IVec S32x256 32 := iotaInDim S32x256 32 1
  let main_v1 : IVec S32x256 32 := broadcastInDim S32x256 ![0, 1] bcast_S32x1_S32x256_0_1 main_arg4
  let main_v2 : IVec S32x256 1 := cmpi .slt main_v0 main_v1
  let main_c : IVec S_ 32 := constantI S_ 32 0#32
  let main_v3 : IVec S32x256 32 := broadcastInDim S32x256 ![] bcast_S_S32x256 main_c
  let main_v4 : IVec S32x256 1 := cmpi .sge main_arg3 main_v3
  let main_c_0 : IVec S_ 32 := constantI S_ 32 512#32
  let main_v5 : IVec S32x256 32 := broadcastInDim S32x256 ![] bcast_S_S32x256 main_c_0
  let main_v6 : IVec S32x256 1 := cmpi .slt main_arg3 main_v5
  let main_v7 : IVec S32x256 1 := andi main_v4 main_v6
  let main_v8 : FVec F S32x16x128 .f32 := Host.absf main_arg0
  let main_cst : FVec F S_ .f32 := constant S_ .f32 0x7F800000#32
  let main_v9 : FVec F S32x16x128 .f32 := broadcastInDim S32x16x128 ![] bcast_S_S32x16x128 main_cst
  let main_v10 : IVec S32x16x128 1 := cmpf .olt main_v8 main_v9
  let main_c_1 : IVec S_ 1 := constantI S_ 1 1#1
  let main_v11 : IVec S_ 1 := (fun x v => Host.reduce IntOp.andi x v reducesTo_S32x16x128_S_d0_1_2 h_S_) main_v10 main_c_1
  let main_v12 : FVec F S256x32x16x128 .f32 := Host.absf main_arg1
  let main_cst_2 : FVec F S_ .f32 := constant S_ .f32 0x7F800000#32
  let main_v13 : FVec F S256x32x16x128 .f32 := broadcastInDim S256x32x16x128 ![] bcast_S_S256x32x16x128 main_cst_2
  let main_v14 : IVec S256x32x16x128 1 := cmpf .olt main_v12 main_v13
  let main_c_3 : IVec S_ 1 := constantI S_ 1 1#1
  let main_v15 : IVec S_ 1 := (fun x v => Host.reduce IntOp.andi x v reducesTo_S256x32x16x128_S_d0_1_2_3 h_S_) main_v14 main_c_3
  let main_v16 : IVec S_ 1 := andi main_v11 main_v15
  let main_c_4 : IVec S_ 32 := constantI S_ 32 1#32
  fn_part1 (F := F) main_arg4 main_v2 main_v7 main_v16 main_c_4
-- ==== Pre_well_formed_ReferenceIdeal.lean ====
abbrev S32x16x128 : Shape := ⟨3, ![32, 16, 128]⟩
abbrev S512x32x16x128 : Shape := ⟨4, ![512, 32, 16, 128]⟩
abbrev S32x256 : Shape := ⟨2, ![32, 256]⟩
abbrev S32x1 : Shape := ⟨2, ![32, 1]⟩
abbrev S_ : Shape := ⟨0, ![]⟩

class Facts : Prop where
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x16x128 : S_.BroadcastsInDim S32x16x128 (![] : Fin 0 → Fin S32x16x128.rank)
  reducesTo_S32x16x128_S_d0_1_2 : S32x16x128.ReducesTo [0, 1, 2] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  bcast_S_S32x1 : S_.BroadcastsInDim S32x1 (![] : Fin 0 → Fin S32x1.rank)
  reducesTo_S32x1_S_d0_1 : S32x1.ReducesTo [0, 1] S_
  reducesTo_S32x256_S_d0_1 : S32x256.ReducesTo [0, 1] S_

variable [Facts]

def fn_part1 {F : FTy → Type} [FloatOps F] (main_arg4 : IVec S32x1 32) (main_v2 : IVec S32x256 1) (main_v7 : IVec S32x256 1) (main_v16 : IVec S_ 1) (main_c_4 : IVec S_ 32) : IVec S_ 1 :=
  let main_v17 : IVec S32x1 32 := broadcastInDim S32x1 ![] bcast_S_S32x1 main_c_4
  let main_v18 : IVec S32x1 1 := cmpi .sge main_arg4 main_v17
  let main_c_5 : IVec S_ 1 := constantI S_ 1 1#1
  let main_v19 : IVec S_ 1 := (fun x v => Host.reduce IntOp.andi x v reducesTo_S32x1_S_d0_1 h_S_) main_v18 main_c_5
  let main_v20 : IVec S_ 1 := andi main_v16 main_v19
  let main_v21 : IVec S32x256 1 := noti main_v2
  let main_v22 : IVec S32x256 1 := ori main_v7 main_v21
  let main_c_6 : IVec S_ 1 := constantI S_ 1 1#1
  let main_v23 : IVec S_ 1 := (fun x v => Host.reduce IntOp.andi x v reducesTo_S32x256_S_d0_1 h_S_) main_v22 main_c_6
  let main_v24 : IVec S_ 1 := andi main_v20 main_v23
  main_v24

def fn {F : FTy → Type} [FloatOps F] (main_arg0 : FVec F S32x16x128 .f32) (main_arg1 : FVec F S512x32x16x128 .f32) (main_arg2 : FVec F S512x32x16x128 .f32) (main_arg3 : IVec S32x256 32) (main_arg4 : IVec S32x1 32) : IVec S_ 1 :=
  let main_v0 : IVec S32x256 32 := iotaInDim S32x256 32 1
  let main_v1 : IVec S32x256 32 := broadcastInDim S32x256 ![0, 1] bcast_S32x1_S32x256_0_1 main_arg4
  let main_v2 : IVec S32x256 1 := cmpi .slt main_v0 main_v1
  let main_c : IVec S_ 32 := constantI S_ 32 0#32
  let main_v3 : IVec S32x256 32 := broadcastInDim S32x256 ![] bcast_S_S32x256 main_c
  let main_v4 : IVec S32x256 1 := cmpi .sge main_arg3 main_v3
  let main_c_0 : IVec S_ 32 := constantI S_ 32 512#32
  let main_v5 : IVec S32x256 32 := broadcastInDim S32x256 ![] bcast_S_S32x256 main_c_0
  let main_v6 : IVec S32x256 1 := cmpi .slt main_arg3 main_v5
  let main_v7 : IVec S32x256 1 := andi main_v4 main_v6
  let main_v8 : FVec F S32x16x128 .f32 := Host.absf main_arg0
  let main_cst : FVec F S_ .f32 := constant S_ .f32 0x7F800000#32
  let main_v9 : FVec F S32x16x128 .f32 := broadcastInDim S32x16x128 ![] bcast_S_S32x16x128 main_cst
  let main_v10 : IVec S32x16x128 1 := cmpf .olt main_v8 main_v9
  let main_c_1 : IVec S_ 1 := constantI S_ 1 1#1
  let main_v11 : IVec S_ 1 := (fun x v => Host.reduce IntOp.andi x v reducesTo_S32x16x128_S_d0_1_2 h_S_) main_v10 main_c_1
  let main_v12 : FVec F S512x32x16x128 .f32 := Host.absf main_arg1
  let main_cst_2 : FVec F S_ .f32 := constant S_ .f32 0x7F800000#32
  let main_v13 : FVec F S512x32x16x128 .f32 := broadcastInDim S512x32x16x128 ![] bcast_S_S512x32x16x128 main_cst_2
  let main_v14 : IVec S512x32x16x128 1 := cmpf .olt main_v12 main_v13
  let main_c_3 : IVec S_ 1 := constantI S_ 1 1#1
  let main_v15 : IVec S_ 1 := (fun x v => Host.reduce IntOp.andi x v reducesTo_S512x32x16x128_S_d0_1_2_3 h_S_) main_v14 main_c_3
  let main_v16 : IVec S_ 1 := andi main_v11 main_v15
  let main_c_4 : IVec S_ 32 := constantI S_ 32 1#32
  fn_part1 (F := F) main_arg4 main_v2 main_v7 main_v16 main_c_4
-- ==== Kernel.lean ====
abbrev S32x16x128 : Shape := ⟨3, ![32, 16, 128]⟩
abbrev S256x32x16x128 : Shape := ⟨4, ![256, 32, 16, 128]⟩
abbrev S32x256 : Shape := ⟨2, ![32, 256]⟩
abbrev S32x1 : Shape := ⟨2, ![32, 1]⟩
abbrev S32x1x16x128 : Shape := ⟨4, ![32, 1, 16, 128]⟩
abbrev S16x32x16x128 : Shape := ⟨4, ![16, 32, 16, 128]⟩
abbrev S2x32x8 : Shape := ⟨3, ![2, 32, 8]⟩
abbrev S2x8x32x128 : Shape := ⟨4, ![2, 8, 32, 128]⟩
abbrev S5x2x32x8 : Shape := ⟨4, ![5, 2, 32, 8]⟩
abbrev S5x2x8x32x128 : Shape := ⟨5, ![5, 2, 8, 32, 128]⟩
abbrev S2 : Shape := ⟨1, ![2]⟩
abbrev S5x2x3 : Shape := ⟨3, ![5, 2, 3]⟩
abbrev S1 : Shape := ⟨1, ![1]⟩
abbrev S_ : Shape := ⟨0, ![]⟩
abbrev S16x1x1 : Shape := ⟨3, ![16, 1, 1]⟩
abbrev S1x32x256 : Shape := ⟨3, ![1, 32, 256]⟩
abbrev S16x32x256 : Shape := ⟨3, ![16, 32, 256]⟩
abbrev S16x32 : Shape := ⟨2, ![16, 32]⟩
abbrev S32x16 : Shape := ⟨2, ![32, 16]⟩
abbrev S32x16x1 : Shape := ⟨3, ![32, 16, 1]⟩
abbrev S32x16x32 : Shape := ⟨3, ![32, 16, 32]⟩
abbrev S32x512 : Shape := ⟨2, ![32, 512]⟩
abbrev S16x32x1x128 : Shape := ⟨4, ![16, 32, 1, 128]⟩
abbrev S16x32x128 : Shape := ⟨3, ![16, 32, 128]⟩
abbrev S512x128 : Shape := ⟨2, ![512, 128]⟩
abbrev S32x1x128 : Shape := ⟨3, ![32, 1, 128]⟩
abbrev S32x128 : Shape := ⟨2, ![32, 128]⟩
abbrev S32 : Shape := ⟨1, ![32]⟩
abbrev S1x32x1 : Shape := ⟨3, ![1, 32, 1]⟩
abbrev S1x1x32x128 : Shape := ⟨4, ![1, 1, 32, 128]⟩
abbrev S1x8x32x128 : Shape := ⟨4, ![1, 8, 32, 128]⟩
abbrev S8x32x128 : Shape := ⟨3, ![8, 32, 128]⟩
abbrev S1x1x1 : Shape := ⟨3, ![1, 1, 1]⟩
abbrev S1x1x32x8 : Shape := ⟨4, ![1, 1, 32, 8]⟩
abbrev S32x8 : Shape := ⟨2, ![32, 8]⟩
abbrev S1x32x8 : Shape := ⟨3, ![1, 32, 8]⟩
abbrev S1x1x8x32x128 : Shape := ⟨5, ![1, 1, 8, 32, 128]⟩
abbrev S8x32 : Shape := ⟨2, ![8, 32]⟩
abbrev S8x32x1 : Shape := ⟨3, ![8, 32, 1]⟩
abbrev S16x32x1 : Shape := ⟨3, ![16, 32, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32x1, .i32⟩
  | .hbm, ⟨5, _⟩ => ⟨S32x1x16x128, .f32⟩
  | .local _ .vmem, ⟨0, _⟩ => ⟨S32x16x128, .f32⟩
  | .local _ .vmem, ⟨1, _⟩ => ⟨S32x256, .i32⟩
  | .local _ .vmem, ⟨2, _⟩ => ⟨S32x1, .i32⟩
  | .local _ .vmem, ⟨3, _⟩ => ⟨S32x1x16x128, .f32⟩
  | .local _ .vmem, ⟨4, _⟩ => ⟨S16x32x16x128, .f32⟩
  | .local _ .vmem, ⟨5, _⟩ => ⟨S16x32x16x128, .f32⟩
  | .local _ .vmem, ⟨6, _⟩ => ⟨S2x32x8, .f32⟩
  | .local _ .vmem, ⟨7, _⟩ => ⟨S2x32x8, .f32⟩
  | .local _ .vmem, ⟨8, _⟩ => ⟨S2x8x32x128, .f32⟩
  | .local _ .vmem, ⟨9, _⟩ => ⟨S2x8x32x128, .bf16⟩
  | .local _ .vmem, ⟨10, _⟩ => ⟨S5x2x32x8, .f32⟩
  | .local _ .vmem, ⟨11, _⟩ => ⟨S5x2x32x8, .f32⟩
  | .local _ .vmem, ⟨12, _⟩ => ⟨S5x2x8x32x128, .bf16⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c16_i32_3 : BitVec 32 := 16#32
  let v11 : BitVec 32 := Scalar.muli v10 c16_i32_3
  let c0_i32_5 : BitVec 32 := 0#32
  let c0_i32_6 : BitVec 32 := 0#32
  let c0_i32_7 : BitVec 32 := 0#32
  ![v11.toNat, 0, 0, 0]
def k0_dev1 (d0 : Dev nD) : Nat :=
  let c0_i32_19 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_18 : BitVec 32 := 16#32
  let v25 : BitVec 32 := Scalar.muli v19 c16_i32_18
  let v26 : BitVec 32 := Scalar.addi c0_i32_19 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v27 : BitVec 32 := Scalar.muli v5 c4_i32_20
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.muli v8 c1_i32_21
  let v30 : BitVec 32 := Scalar.addi v28 v29
  v30.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v31 : BitVec 32 := Scalar.muli v2 c16_i32_23
  let v32 : BitVec 32 := Scalar.addi c0_i32_24 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_25 : BitVec 32 := 4#32
  let v33 : BitVec 32 := Scalar.muli v20 c4_i32_25
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v35 : BitVec 32 := Scalar.muli v8 c1_i32_26
  let v36 : BitVec 32 := Scalar.addi v34 v35
  v36.toNat
def k0_dev3 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v37 : BitVec 32 := Scalar.muli v2 c16_i32_28
  let v38 : BitVec 32 := Scalar.addi c0_i32_29 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_30 : BitVec 32 := 4#32
  let v39 : BitVec 32 := Scalar.muli v21 c4_i32_30
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v41 : BitVec 32 := Scalar.muli v8 c1_i32_31
  let v42 : BitVec 32 := Scalar.addi v40 v41
  v42.toNat
def k0_dev4 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v43 : BitVec 32 := Scalar.muli v2 c16_i32_33
  let v44 : BitVec 32 := Scalar.addi c0_i32_34 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v45 : BitVec 32 := Scalar.muli v5 c4_i32_35
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_36 : BitVec 32 := 1#32
  let v47 : BitVec 32 := Scalar.muli v22 c1_i32_36
  let v48 : BitVec 32 := Scalar.addi v46 v47
  v48.toNat
def k0_dev5 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v49 : BitVec 32 := Scalar.muli v2 c16_i32_38
  let v50 : BitVec 32 := Scalar.addi c0_i32_39 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v51 : BitVec 32 := Scalar.muli v5 c4_i32_40
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_41 : BitVec 32 := 1#32
  let v53 : BitVec 32 := Scalar.muli v23 c1_i32_41
  let v54 : BitVec 32 := Scalar.addi v52 v53
  v54.toNat
def k0_dev6 (d0 : Dev nD) : Nat :=
  let c0_i32_273 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_272 : BitVec 32 := 16#32
  let v326 : BitVec 32 := Scalar.muli v19 c16_i32_272
  let v327 : BitVec 32 := Scalar.addi c0_i32_273 v326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_274 : BitVec 32 := 4#32
  let v328 : BitVec 32 := Scalar.muli v5 c4_i32_274
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v330 : BitVec 32 := Scalar.muli v8 c1_i32_275
  let v331 : BitVec 32 := Scalar.addi v329 v330
  v331.toNat
def k0_dev7 (d0 : Dev nD) : Nat :=
  let c0_i32_290 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_289 : BitVec 32 := 16#32
  let v340 : BitVec 32 := Scalar.muli v19 c16_i32_289
  let v341 : BitVec 32 := Scalar.addi c0_i32_290 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_291 : BitVec 32 := 4#32
  let v342 : BitVec 32 := Scalar.muli v5 c4_i32_291
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v344 : BitVec 32 := Scalar.muli v8 c1_i32_292
  let v345 : BitVec 32 := Scalar.addi v343 v344
  v345.toNat
def k0_dev8 (d0 : Dev nD) : Nat :=
  let c0_i32_307 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_306 : BitVec 32 := 16#32
  let v354 : BitVec 32 := Scalar.muli v19 c16_i32_306
  let v355 : BitVec 32 := Scalar.addi c0_i32_307 v354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v356 : BitVec 32 := Scalar.muli v5 c4_i32_308
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v358 : BitVec 32 := Scalar.muli v8 c1_i32_309
  let v359 : BitVec 32 := Scalar.addi v357 v358
  v359.toNat
def k0_dev9 (d0 : Dev nD) : Nat :=
  let c0_i32_534 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_533 : BitVec 32 := 16#32
  let v606 : BitVec 32 := Scalar.muli v19 c16_i32_533
  let v607 : BitVec 32 := Scalar.addi c0_i32_534 v606
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_535 : BitVec 32 := 4#32
  let v608 : BitVec 32 := Scalar.muli v5 c4_i32_535
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v610 : BitVec 32 := Scalar.muli v8 c1_i32_536
  let v611 : BitVec 32 := Scalar.addi v609 v610
  v611.toNat
def k0_dev10 (d0 : Dev nD) : Nat :=
  let c0_i32_551 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_550 : BitVec 32 := 16#32
  let v620 : BitVec 32 := Scalar.muli v19 c16_i32_550
  let v621 : BitVec 32 := Scalar.addi c0_i32_551 v620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_552 : BitVec 32 := 4#32
  let v622 : BitVec 32 := Scalar.muli v5 c4_i32_552
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_553 : BitVec 32 := 1#32
  let v624 : BitVec 32 := Scalar.muli v8 c1_i32_553
  let v625 : BitVec 32 := Scalar.addi v623 v624
  v625.toNat
def k0_dev11 (d0 : Dev nD) : Nat :=
  let c0_i32_568 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_567 : BitVec 32 := 16#32
  let v634 : BitVec 32 := Scalar.muli v19 c16_i32_567
  let v635 : BitVec 32 := Scalar.addi c0_i32_568 v634
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_569 : BitVec 32 := 4#32
  let v636 : BitVec 32 := Scalar.muli v5 c4_i32_569
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v638 : BitVec 32 := Scalar.muli v8 c1_i32_570
  let v639 : BitVec 32 := Scalar.addi v637 v638
  v639.toNat
def k0_dev12 (d0 : Dev nD) : Nat :=
  let c0_i32_725 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_724 : BitVec 32 := 16#32
  let v747 : BitVec 32 := Scalar.muli v2 c16_i32_724
  let v748 : BitVec 32 := Scalar.addi c0_i32_725 v747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_726 : BitVec 32 := 4#32
  let v749 : BitVec 32 := Scalar.muli v20 c4_i32_726
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_727 : BitVec 32 := 1#32
  let v751 : BitVec 32 := Scalar.muli v8 c1_i32_727
  let v752 : BitVec 32 := Scalar.addi v750 v751
  v752.toNat
def k0_dev13 (d0 : Dev nD) : Nat :=
  let c0_i32_742 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_741 : BitVec 32 := 16#32
  let v761 : BitVec 32 := Scalar.muli v2 c16_i32_741
  let v762 : BitVec 32 := Scalar.addi c0_i32_742 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_743 : BitVec 32 := 4#32
  let v763 : BitVec 32 := Scalar.muli v20 c4_i32_743
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v765 : BitVec 32 := Scalar.muli v8 c1_i32_744
  let v766 : BitVec 32 := Scalar.addi v764 v765
  v766.toNat
def k0_dev14 (d0 : Dev nD) : Nat :=
  let c0_i32_759 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_758 : BitVec 32 := 16#32
  let v775 : BitVec 32 := Scalar.muli v2 c16_i32_758
  let v776 : BitVec 32 := Scalar.addi c0_i32_759 v775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_760 : BitVec 32 := 4#32
  let v777 : BitVec 32 := Scalar.muli v20 c4_i32_760
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_761 : BitVec 32 := 1#32
  let v779 : BitVec 32 := Scalar.muli v8 c1_i32_761
  let v780 : BitVec 32 := Scalar.addi v778 v779
  v780.toNat
def k0_dev15 (d0 : Dev nD) : Nat :=
  let c0_i32_916 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_915 : BitVec 32 := 16#32
  let v888 : BitVec 32 := Scalar.muli v2 c16_i32_915
  let v889 : BitVec 32 := Scalar.addi c0_i32_916 v888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_917 : BitVec 32 := 4#32
  let v890 : BitVec 32 := Scalar.muli v20 c4_i32_917
  let v891 : BitVec 32 := Scalar.addi v889 v890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_918 : BitVec 32 := 1#32
  let v892 : BitVec 32 := Scalar.muli v8 c1_i32_918
  let v893 : BitVec 32 := Scalar.addi v891 v892
  v893.toNat
def k0_dev16 (d0 : Dev nD) : Nat :=
  let c0_i32_933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_932 : BitVec 32 := 16#32
  let v902 : BitVec 32 := Scalar.muli v2 c16_i32_932
  let v903 : BitVec 32 := Scalar.addi c0_i32_933 v902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_934 : BitVec 32 := 4#32
  let v904 : BitVec 32 := Scalar.muli v20 c4_i32_934
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v906 : BitVec 32 := Scalar.muli v8 c1_i32_935
  let v907 : BitVec 32 := Scalar.addi v905 v906
  v907.toNat
def k0_dev17 (d0 : Dev nD) : Nat :=
  let c0_i32_950 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_949 : BitVec 32 := 16#32
  let v916 : BitVec 32 := Scalar.muli v2 c16_i32_949
  let v917 : BitVec 32 := Scalar.addi c0_i32_950 v916
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v20 : BitVec 32 := Scalar.xori v5 c1_i32_13
  let c4_i32_951 : BitVec 32 := 4#32
  let v918 : BitVec 32 := Scalar.muli v20 c4_i32_951
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_952 : BitVec 32 := 1#32
  let v920 : BitVec 32 := Scalar.muli v8 c1_i32_952
  let v921 : BitVec 32 := Scalar.addi v919 v920
  v921.toNat
def k0_dev18 (d0 : Dev nD) : Nat :=
  let c0_i32_1107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1106 : BitVec 32 := 16#32
  let v1029 : BitVec 32 := Scalar.muli v2 c16_i32_1106
  let v1030 : BitVec 32 := Scalar.addi c0_i32_1107 v1029
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1108 : BitVec 32 := 4#32
  let v1031 : BitVec 32 := Scalar.muli v21 c4_i32_1108
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1109 : BitVec 32 := 1#32
  let v1033 : BitVec 32 := Scalar.muli v8 c1_i32_1109
  let v1034 : BitVec 32 := Scalar.addi v1032 v1033
  v1034.toNat
def k0_dev19 (d0 : Dev nD) : Nat :=
  let c0_i32_1124 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1123 : BitVec 32 := 16#32
  let v1043 : BitVec 32 := Scalar.muli v2 c16_i32_1123
  let v1044 : BitVec 32 := Scalar.addi c0_i32_1124 v1043
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1125 : BitVec 32 := 4#32
  let v1045 : BitVec 32 := Scalar.muli v21 c4_i32_1125
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1126 : BitVec 32 := 1#32
  let v1047 : BitVec 32 := Scalar.muli v8 c1_i32_1126
  let v1048 : BitVec 32 := Scalar.addi v1046 v1047
  v1048.toNat
def k0_dev20 (d0 : Dev nD) : Nat :=
  let c0_i32_1141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1140 : BitVec 32 := 16#32
  let v1057 : BitVec 32 := Scalar.muli v2 c16_i32_1140
  let v1058 : BitVec 32 := Scalar.addi c0_i32_1141 v1057
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1142 : BitVec 32 := 4#32
  let v1059 : BitVec 32 := Scalar.muli v21 c4_i32_1142
  let v1060 : BitVec 32 := Scalar.addi v1058 v1059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v1061 : BitVec 32 := Scalar.muli v8 c1_i32_1143
  let v1062 : BitVec 32 := Scalar.addi v1060 v1061
  v1062.toNat
def k0_dev21 (d0 : Dev nD) : Nat :=
  let c0_i32_1298 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1297 : BitVec 32 := 16#32
  let v1170 : BitVec 32 := Scalar.muli v2 c16_i32_1297
  let v1171 : BitVec 32 := Scalar.addi c0_i32_1298 v1170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1299 : BitVec 32 := 4#32
  let v1172 : BitVec 32 := Scalar.muli v21 c4_i32_1299
  let v1173 : BitVec 32 := Scalar.addi v1171 v1172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1300 : BitVec 32 := 1#32
  let v1174 : BitVec 32 := Scalar.muli v8 c1_i32_1300
  let v1175 : BitVec 32 := Scalar.addi v1173 v1174
  v1175.toNat
def k0_dev22 (d0 : Dev nD) : Nat :=
  let c0_i32_1315 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1314 : BitVec 32 := 16#32
  let v1184 : BitVec 32 := Scalar.muli v2 c16_i32_1314
  let v1185 : BitVec 32 := Scalar.addi c0_i32_1315 v1184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1316 : BitVec 32 := 4#32
  let v1186 : BitVec 32 := Scalar.muli v21 c4_i32_1316
  let v1187 : BitVec 32 := Scalar.addi v1185 v1186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1317 : BitVec 32 := 1#32
  let v1188 : BitVec 32 := Scalar.muli v8 c1_i32_1317
  let v1189 : BitVec 32 := Scalar.addi v1187 v1188
  v1189.toNat
def k0_dev23 (d0 : Dev nD) : Nat :=
  let c0_i32_1332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1331 : BitVec 32 := 16#32
  let v1198 : BitVec 32 := Scalar.muli v2 c16_i32_1331
  let v1199 : BitVec 32 := Scalar.addi c0_i32_1332 v1198
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v21 : BitVec 32 := Scalar.xori v5 c2_i32_14
  let c4_i32_1333 : BitVec 32 := 4#32
  let v1200 : BitVec 32 := Scalar.muli v21 c4_i32_1333
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1334 : BitVec 32 := 1#32
  let v1202 : BitVec 32 := Scalar.muli v8 c1_i32_1334
  let v1203 : BitVec 32 := Scalar.addi v1201 v1202
  v1203.toNat
def k0_dev24 (d0 : Dev nD) : Nat :=
  let c0_i32_1488 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1487 : BitVec 32 := 16#32
  let v1311 : BitVec 32 := Scalar.muli v2 c16_i32_1487
  let v1312 : BitVec 32 := Scalar.addi c0_i32_1488 v1311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1489 : BitVec 32 := 4#32
  let v1313 : BitVec 32 := Scalar.muli v5 c4_i32_1489
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1490 : BitVec 32 := 1#32
  let v1315 : BitVec 32 := Scalar.muli v22 c1_i32_1490
  let v1316 : BitVec 32 := Scalar.addi v1314 v1315
  v1316.toNat
def k0_dev25 (d0 : Dev nD) : Nat :=
  let c0_i32_1505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1504 : BitVec 32 := 16#32
  let v1325 : BitVec 32 := Scalar.muli v2 c16_i32_1504
  let v1326 : BitVec 32 := Scalar.addi c0_i32_1505 v1325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1506 : BitVec 32 := 4#32
  let v1327 : BitVec 32 := Scalar.muli v5 c4_i32_1506
  let v1328 : BitVec 32 := Scalar.addi v1326 v1327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1507 : BitVec 32 := 1#32
  let v1329 : BitVec 32 := Scalar.muli v22 c1_i32_1507
  let v1330 : BitVec 32 := Scalar.addi v1328 v1329
  v1330.toNat
def k0_dev26 (d0 : Dev nD) : Nat :=
  let c0_i32_1522 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1521 : BitVec 32 := 16#32
  let v1339 : BitVec 32 := Scalar.muli v2 c16_i32_1521
  let v1340 : BitVec 32 := Scalar.addi c0_i32_1522 v1339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1523 : BitVec 32 := 4#32
  let v1341 : BitVec 32 := Scalar.muli v5 c4_i32_1523
  let v1342 : BitVec 32 := Scalar.addi v1340 v1341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1524 : BitVec 32 := 1#32
  let v1343 : BitVec 32 := Scalar.muli v22 c1_i32_1524
  let v1344 : BitVec 32 := Scalar.addi v1342 v1343
  v1344.toNat
def k0_dev27 (d0 : Dev nD) : Nat :=
  let c0_i32_1679 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1678 : BitVec 32 := 16#32
  let v1452 : BitVec 32 := Scalar.muli v2 c16_i32_1678
  let v1453 : BitVec 32 := Scalar.addi c0_i32_1679 v1452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1680 : BitVec 32 := 4#32
  let v1454 : BitVec 32 := Scalar.muli v5 c4_i32_1680
  let v1455 : BitVec 32 := Scalar.addi v1453 v1454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1681 : BitVec 32 := 1#32
  let v1456 : BitVec 32 := Scalar.muli v22 c1_i32_1681
  let v1457 : BitVec 32 := Scalar.addi v1455 v1456
  v1457.toNat
def k0_dev28 (d0 : Dev nD) : Nat :=
  let c0_i32_1696 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1695 : BitVec 32 := 16#32
  let v1466 : BitVec 32 := Scalar.muli v2 c16_i32_1695
  let v1467 : BitVec 32 := Scalar.addi c0_i32_1696 v1466
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1697 : BitVec 32 := 4#32
  let v1468 : BitVec 32 := Scalar.muli v5 c4_i32_1697
  let v1469 : BitVec 32 := Scalar.addi v1467 v1468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1698 : BitVec 32 := 1#32
  let v1470 : BitVec 32 := Scalar.muli v22 c1_i32_1698
  let v1471 : BitVec 32 := Scalar.addi v1469 v1470
  v1471.toNat
def k0_dev29 (d0 : Dev nD) : Nat :=
  let c0_i32_1713 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1712 : BitVec 32 := 16#32
  let v1480 : BitVec 32 := Scalar.muli v2 c16_i32_1712
  let v1481 : BitVec 32 := Scalar.addi c0_i32_1713 v1480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1714 : BitVec 32 := 4#32
  let v1482 : BitVec 32 := Scalar.muli v5 c4_i32_1714
  let v1483 : BitVec 32 := Scalar.addi v1481 v1482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v22 : BitVec 32 := Scalar.xori v8 c1_i32_15
  let c1_i32_1715 : BitVec 32 := 1#32
  let v1484 : BitVec 32 := Scalar.muli v22 c1_i32_1715
  let v1485 : BitVec 32 := Scalar.addi v1483 v1484
  v1485.toNat
def k0_dev30 (d0 : Dev nD) : Nat :=
  let c0_i32_1870 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1869 : BitVec 32 := 16#32
  let v1593 : BitVec 32 := Scalar.muli v2 c16_i32_1869
  let v1594 : BitVec 32 := Scalar.addi c0_i32_1870 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1871 : BitVec 32 := 4#32
  let v1595 : BitVec 32 := Scalar.muli v5 c4_i32_1871
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_1872 : BitVec 32 := 1#32
  let v1597 : BitVec 32 := Scalar.muli v23 c1_i32_1872
  let v1598 : BitVec 32 := Scalar.addi v1596 v1597
  v1598.toNat
def k0_dev31 (d0 : Dev nD) : Nat :=
  let c0_i32_1887 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1886 : BitVec 32 := 16#32
  let v1607 : BitVec 32 := Scalar.muli v2 c16_i32_1886
  let v1608 : BitVec 32 := Scalar.addi c0_i32_1887 v1607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1888 : BitVec 32 := 4#32
  let v1609 : BitVec 32 := Scalar.muli v5 c4_i32_1888
  let v1610 : BitVec 32 := Scalar.addi v1608 v1609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_1889 : BitVec 32 := 1#32
  let v1611 : BitVec 32 := Scalar.muli v23 c1_i32_1889
  let v1612 : BitVec 32 := Scalar.addi v1610 v1611
  v1612.toNat
def k0_dev32 (d0 : Dev nD) : Nat :=
  let c0_i32_1904 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1903 : BitVec 32 := 16#32
  let v1621 : BitVec 32 := Scalar.muli v2 c16_i32_1903
  let v1622 : BitVec 32 := Scalar.addi c0_i32_1904 v1621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1905 : BitVec 32 := 4#32
  let v1623 : BitVec 32 := Scalar.muli v5 c4_i32_1905
  let v1624 : BitVec 32 := Scalar.addi v1622 v1623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_1906 : BitVec 32 := 1#32
  let v1625 : BitVec 32 := Scalar.muli v23 c1_i32_1906
  let v1626 : BitVec 32 := Scalar.addi v1624 v1625
  v1626.toNat
def k0_dev33 (d0 : Dev nD) : Nat :=
  let c0_i32_2061 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2060 : BitVec 32 := 16#32
  let v1734 : BitVec 32 := Scalar.muli v2 c16_i32_2060
  let v1735 : BitVec 32 := Scalar.addi c0_i32_2061 v1734
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2062 : BitVec 32 := 4#32
  let v1736 : BitVec 32 := Scalar.muli v5 c4_i32_2062
  let v1737 : BitVec 32 := Scalar.addi v1735 v1736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_2063 : BitVec 32 := 1#32
  let v1738 : BitVec 32 := Scalar.muli v23 c1_i32_2063
  let v1739 : BitVec 32 := Scalar.addi v1737 v1738
  v1739.toNat
def k0_dev34 (d0 : Dev nD) : Nat :=
  let c0_i32_2078 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2077 : BitVec 32 := 16#32
  let v1748 : BitVec 32 := Scalar.muli v2 c16_i32_2077
  let v1749 : BitVec 32 := Scalar.addi c0_i32_2078 v1748
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2079 : BitVec 32 := 4#32
  let v1750 : BitVec 32 := Scalar.muli v5 c4_i32_2079
  let v1751 : BitVec 32 := Scalar.addi v1749 v1750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_2080 : BitVec 32 := 1#32
  let v1752 : BitVec 32 := Scalar.muli v23 c1_i32_2080
  let v1753 : BitVec 32 := Scalar.addi v1751 v1752
  v1753.toNat
def k0_dev35 (d0 : Dev nD) : Nat :=
  let c0_i32_2095 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2094 : BitVec 32 := 16#32
  let v1762 : BitVec 32 := Scalar.muli v2 c16_i32_2094
  let v1763 : BitVec 32 := Scalar.addi c0_i32_2095 v1762
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2096 : BitVec 32 := 4#32
  let v1764 : BitVec 32 := Scalar.muli v5 c4_i32_2096
  let v1765 : BitVec 32 := Scalar.addi v1763 v1764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v23 : BitVec 32 := Scalar.xori v8 c2_i32_16
  let c1_i32_2097 : BitVec 32 := 1#32
  let v1766 : BitVec 32 := Scalar.muli v23 c1_i32_2097
  let v1767 : BitVec 32 := Scalar.addi v1765 v1766
  v1767.toNat
abbrev stage0_0 : Fin 1 → Memref sig .tc .vmem S32x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S32x16x128 : Shape := ⟨3, ![32, 16, 128]⟩
abbrev S512x32x16x128 : Shape := ⟨4, ![512, 32, 16, 128]⟩
abbrev S32x256 : Shape := ⟨2, ![32, 256]⟩
abbrev S32x1 : Shape := ⟨2, ![32, 1]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x8192 : Shape := ⟨3, ![32, 16, 8192]⟩
abbrev S32x256x32 : Shape := ⟨3, ![32, 256, 32]⟩
abbrev S32x8192 : Shape := ⟨2, ![32, 8192]⟩
abbrev S32x1x8192 : Shape := ⟨3, ![32, 1, 8192]⟩
abbrev S32x16 : Shape := ⟨2, ![32, 16]⟩
abbrev S32x16x1 : Shape := ⟨3, ![32, 16, 1]⟩
abbrev S32x1x16x128 : Shape := ⟨4, ![32, 1, 16, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32x1, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x8192, .f32⟩
  | .hbm, ⟨26, _⟩ => ⟨S_, .f32⟩
  | .hbm, ⟨27, _⟩ => ⟨S_, .f32⟩
  | .hbm, ⟨28, _⟩ => ⟨S32x16x8192, .f32⟩
  | .hbm, ⟨29, _⟩ => ⟨S32x16x8192, .f32⟩
  | .hbm, ⟨30, _⟩ => ⟨S32x256, .i32⟩
  | .hbm, ⟨31, _⟩ => ⟨S32x256, .i32⟩
  | .hbm, ⟨32, _⟩ => ⟨S32x256, .i1⟩
  | .hbm, ⟨33, _⟩ => ⟨S32x256x32, .i1⟩
  | .hbm, ⟨34, _⟩ => ⟨S32x8192, .i1⟩
  | .hbm, ⟨35, _⟩ => ⟨S32x1x8192, .i1⟩
  | .hbm, ⟨36, _⟩ => ⟨S_, .f32⟩
  | .hbm, ⟨37, _⟩ => ⟨S_, .f32⟩
  | .hbm, ⟨38, _⟩ => ⟨S32x16x8192, .i1⟩
  | .hbm, ⟨39, _⟩ => ⟨S32x16x8192, .f32⟩
  | .hbm, ⟨40, _⟩ => ⟨S32x16x8192, .f32⟩
  | .hbm, ⟨41, _⟩ => ⟨S_, .f32⟩
  | .hbm, ⟨42, _⟩ => ⟨S32x16, .f32⟩
  | .hbm, ⟨43, _⟩ => ⟨S32x16x1, .f32⟩
  | .hbm, ⟨44, _⟩ => ⟨S32x16x8192, .f32⟩
  | .hbm, ⟨45, _⟩ => ⟨S32x16x8192, .f32⟩
  | .hbm, ⟨46, _⟩ => ⟨S32x16x8192, .f32⟩
  | .hbm, ⟨47, _⟩ => ⟨S_, .f32⟩
  | .hbm, ⟨48, _⟩ => ⟨S32x16, .f32⟩
  | .hbm, ⟨49, _⟩ => ⟨S32x16x1, .f32⟩
  | .hbm, ⟨50, _⟩ => ⟨S32x16x8192, .f32⟩
  | .hbm, ⟨51, _⟩ => ⟨S32x16x8192, .f32⟩
  | .hbm, ⟨52, _⟩ => ⟨S32x16x128, .f32⟩
  | .hbm, ⟨53, _⟩ => ⟨S32x1x16x128, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Steps.lean ====
/-
# Steps of the kernel body

The kernel's body is one long line of memory operations. It repeats three patterns: the local attention of one
head, the send of one half's running state to the round's partner, and the merge of the partner's state. This
module states each pattern once, for a symbolic head, half and round, and proves that the body is their sequence.
-/
module

public import proofs.«01_k».proof.Proof.Gen.KernelIdeal.Skeleton

@[expose] public section

noncomputable section

namespace Cert.PagedAttn

open Cert.KernelIdeal Cert.KernelIdeal.Gen
open Idealize.ShloMosaic Idealize.SL.Sem

variable {F : FTy → Type} [FloatOps F] [Named F]

/-! ## The buffers -/

abbrev qM : Memref sig .tc .vmem S32x16x128 .f32 := Memref.whole cc0_stg0_0
abbrev kH : Memref sig .tc .hbm S256x32x16x128 .f32 := Memref.whole main_arg1
abbrev vH : Memref sig .tc .hbm S256x32x16x128 .f32 := Memref.whole main_arg2
abbrev btM : Memref sig .tc .vmem S32x256 .i32 := Memref.whole cc0_stg1_0
abbrev lnM : Memref sig .tc .vmem S32x1 .i32 := Memref.whole cc0_stg2_0
abbrev oM : Memref sig .tc .vmem S32x1x16x128 .f32 := Memref.whole cc0_stg3_0
abbrev kM : Memref sig .tc .vmem S16x32x16x128 .f32 := Memref.whole cc0_scratch0
abbrev vM : Memref sig .tc .vmem S16x32x16x128 .f32 := Memref.whole cc0_scratch1
abbrev mM : Memref sig .tc .vmem S2x32x8 .f32 := Memref.whole cc0_scratch2
abbrev lM : Memref sig .tc .vmem S2x32x8 .f32 := Memref.whole cc0_scratch3
abbrev aM : Memref sig .tc .vmem S2x8x32x128 .f32 := Memref.whole cc0_scratch4
abbrev bM : Memref sig .tc .vmem S2x8x32x128 .bf16 := Memref.whole cc0_scratch5
abbrev rmM : Memref sig .tc .vmem S5x2x32x8 .f32 := Memref.whole cc0_scratch6
abbrev rlM : Memref sig .tc .vmem S5x2x32x8 .f32 := Memref.whole cc0_scratch7
abbrev raM : Memref sig .tc .vmem S5x2x8x32x128 .bf16 := Memref.whole cc0_scratch8
abbrev ldS : DmaSems sig S2 := cc0_scratch9
abbrev sdS : DmaSems sig S5x2x3 := cc0_scratch10
abbrev rcS : DmaSems sig S5x2x3 := cc0_scratch11

/-- The body's programs. -/
abbrev BP (F : FTy → Type) [FloatOps F] : Type 1 := Prog (TpuEff nD τ sig (Elt F) Λ₀ .tc) PUnit

/-! ## The pieces of the buffers, by half `g`, round `r`, head `8 g + i` -/

set_option backward.proofsInPublic true

theorem inbHead (h : Fin 16) : ∀ a, (![0, 0, h.val, 0] : Fin 4 → Nat) a + S16x32x1x128.size a ≤ S16x32x16x128.size a := by
  revert h; decide +kernel
theorem inbQ (h : Fin 16) : ∀ a, (![0, h.val, 0] : Fin 3 → Nat) a + S32x1x128.size a ≤ S32x16x128.size a := by
  revert h; decide +kernel
theorem inbCol (g : Fin 2) (i : Fin 8) : ∀ a, (![g.val, 0, i.val] : Fin 3 → Nat) a + S1x32x1.size a ≤ S2x32x8.size a := by
  revert g i; decide +kernel
theorem inbAcc1 (g : Fin 2) (i : Fin 8) : ∀ a, (![g.val, i.val, 0, 0] : Fin 4 → Nat) a + S1x1x32x128.size a ≤ S2x8x32x128.size a := by
  revert g i; decide +kernel
theorem inbHalf (g : Fin 2) : ∀ a, (![g.val, 0, 0] : Fin 3 → Nat) a + S1x32x8.size a ≤ S2x32x8.size a := by
  revert g; decide +kernel
theorem inbAcc (g : Fin 2) : ∀ a, (![g.val, 0, 0, 0] : Fin 4 → Nat) a + S1x8x32x128.size a ≤ S2x8x32x128.size a := by
  revert g; decide +kernel
theorem inbSlot (r : Fin 5) (g : Fin 2) : ∀ a, (![r.val, g.val, 0, 0] : Fin 4 → Nat) a + S1x1x32x8.size a ≤ S5x2x32x8.size a := by
  revert r g; decide +kernel
theorem inbSlotA (r : Fin 5) (g : Fin 2) : ∀ a, (![r.val, g.val, 0, 0, 0] : Fin 5 → Nat) a + S1x1x8x32x128.size a ≤ S5x2x8x32x128.size a := by
  revert r g; decide +kernel
theorem inbSem (r : Fin 5) (g : Fin 2) (j : Fin 3) : ∀ a, (![r.val, g.val, j.val] : Fin 3 → Nat) a + S1x1x1.size a ≤ S5x2x3.size a := by
  revert r g j; decide +kernel
theorem inbLd (j : Fin 2) : ∀ a, (![j.val] : Fin 1 → Nat) a + S1.size a ≤ S2.size a := by
  revert j; decide +kernel

abbrev rHead (h : Fin 16) : Rect S16x32x16x128 := Rect.unit (s := S16x32x16x128) ![0, 0, h.val, 0] S16x32x1x128.size (inbHead h)
abbrev rQ (h : Fin 16) : Rect S32x16x128 := Rect.unit (s := S32x16x128) ![0, h.val, 0] S32x1x128.size (inbQ h)
abbrev rCol (g : Fin 2) (i : Fin 8) : Rect S2x32x8 := Rect.unit (s := S2x32x8) ![g.val, 0, i.val] S1x32x1.size (inbCol g i)
abbrev rAcc1 (g : Fin 2) (i : Fin 8) : Rect S2x8x32x128 := Rect.unit (s := S2x8x32x128) ![g.val, i.val, 0, 0] S1x1x32x128.size (inbAcc1 g i)
abbrev rHalf (g : Fin 2) : Rect S2x32x8 := Rect.unit (s := S2x32x8) ![g.val, 0, 0] S1x32x8.size (inbHalf g)
abbrev rAcc (g : Fin 2) : Rect S2x8x32x128 := Rect.unit (s := S2x8x32x128) ![g.val, 0, 0, 0] S1x8x32x128.size (inbAcc g)
abbrev rSlot (r : Fin 5) (g : Fin 2) : Rect S5x2x32x8 := Rect.unit (s := S5x2x32x8) ![r.val, g.val, 0, 0] S1x1x32x8.size (inbSlot r g)
abbrev rSlotA (r : Fin 5) (g : Fin 2) : Rect S5x2x8x32x128 := Rect.unit (s := S5x2x8x32x128) ![r.val, g.val, 0, 0, 0] S1x1x8x32x128.size (inbSlotA r g)

theorem packedB (g : Fin 2) : (rAcc g).PackedRows (EltTy.packing .bf16) := by
  fin_cases g
  · exact packedbf16_S2x8x32x128_S1x8x32x128_0_0_0_0
  · exact packedbf16_S2x8x32x128_S1x8x32x128_1_0_0_0
theorem wordsB (g : Fin 2) : (rAcc g).WholeWords (EltTy.packing .bf16) := by
  fin_cases g
  · exact wordsbf16_S2x8x32x128_S1x8x32x128_0_0_0_0
  · exact wordsbf16_S2x8x32x128_S1x8x32x128_1_0_0_0
theorem wordsA (r : Fin 5) (g : Fin 2) : (rSlotA r g).WholeWords (EltTy.packing .bf16) := by
  fin_cases r <;> fin_cases g
  · exact wordsbf16_S5x2x8x32x128_S1x1x8x32x128_0_0_0_0_0
  · exact wordsbf16_S5x2x8x32x128_S1x1x8x32x128_0_1_0_0_0
  · exact wordsbf16_S5x2x8x32x128_S1x1x8x32x128_1_0_0_0_0
  · exact wordsbf16_S5x2x8x32x128_S1x1x8x32x128_1_1_0_0_0
  · exact wordsbf16_S5x2x8x32x128_S1x1x8x32x128_2_0_0_0_0
  · exact wordsbf16_S5x2x8x32x128_S1x1x8x32x128_2_1_0_0_0
  · exact wordsbf16_S5x2x8x32x128_S1x1x8x32x128_3_0_0_0_0
  · exact wordsbf16_S5x2x8x32x128_S1x1x8x32x128_3_1_0_0_0
  · exact wordsbf16_S5x2x8x32x128_S1x1x8x32x128_4_0_0_0_0
  · exact wordsbf16_S5x2x8x32x128_S1x1x8x32x128_4_1_0_0_0

/-- Half `g` of the running maxima, of the running sums, and of the rounded running products: what a send reads. -/
abbrev mSrc (g : Fin 2) : Memref sig .tc .vmem S32x8 .f32 := (mM.slice (rHalf g) (fun _ => rfl)).squeeze S32x8 squeezes_S1x32x8_S32x8
abbrev lSrc (g : Fin 2) : Memref sig .tc .vmem S32x8 .f32 := (lM.slice (rHalf g) (fun _ => rfl)).squeeze S32x8 squeezes_S1x32x8_S32x8
abbrev bSrc (g : Fin 2) : Memref sig .tc .vmem S8x32x128 .bf16 := (bM.slice (rAcc g) (fun _ => rfl)).squeeze S8x32x128 squeezes_S1x8x32x128_S8x32x128
/-- Where round `r`'s half `g` of the partner's maxima, sums and products land. -/
abbrev mDst (r : Fin 5) (g : Fin 2) : Memref sig .tc .vmem S32x8 .f32 := (rmM.slice (rSlot r g) (fun _ => rfl)).squeeze S32x8 squeezes_S1x1x32x8_S32x8
abbrev lDst (r : Fin 5) (g : Fin 2) : Memref sig .tc .vmem S32x8 .f32 := (rlM.slice (rSlot r g) (fun _ => rfl)).squeeze S32x8 squeezes_S1x1x32x8_S32x8
abbrev bDst (r : Fin 5) (g : Fin 2) : Memref sig .tc .vmem S8x32x128 .bf16 := (raM.slice (rSlotA r g) (fun _ => rfl)).squeeze S8x32x128 squeezes_S1x1x8x32x128_S8x32x128

/-- Copy `j` of round `r`, half `g`: its semaphore among the send ones and among the receive ones. -/
abbrev sSem (r : Fin 5) (g : Fin 2) (j : Fin 3) : DmaSem sig := ((sdS.slice (Rect.unit (s := S5x2x3) ![r.val, g.val, j.val] S1x1x1.size (inbSem r g j))).squeeze S_ squeezes_S1x1x1_S_).sem
abbrev rSem (r : Fin 5) (g : Fin 2) (j : Fin 3) : DmaSem sig := ((rcS.slice (Rect.unit (s := S5x2x3) ![r.val, g.val, j.val] S1x1x1.size (inbSem r g j))).squeeze S_ squeezes_S1x1x1_S_).sem
/-- The two semaphores of the page copies. -/
abbrev pSem (j : Fin 2) : DmaSem sig := ((ldS.slice (Rect.unit (s := S2) ![j.val] S1.size (inbLd j))).squeeze S_ squeezes_S1_S_).sem
/-- The entry barrier's semaphore. -/
abbrev barS : Sem sig := (SemArray.scalar (sig.barrier 0 rfl) : Sems sig S_).sem

/-- The pages device `d` reads, as a piece of its own block of the keys (values). -/
abbrev kSrc (d : Dev nD) : Memref sig .tc .hbm S16x32x16x128 .f32 := kH.slice (Rect.unit (s := S256x32x16x128) (k0_off1 d) S16x32x16x128.size (k0_off1_inb d)) (fun _ => rfl)
abbrev vSrc (d : Dev nD) : Memref sig .tc .hbm S16x32x16x128 .f32 := vH.slice (Rect.unit (s := S256x32x16x128) (k0_off1 d) S16x32x16x128.size (k0_off1_inb d)) (fun _ => rfl)

/-- Round `r`'s partner of device `d`, as the kernel computes it. -/
def ptr (r : Fin 5) (d : Dev nD) : Dev nD := match r with
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩

/-! ## The local attention of one head -/

/-- Head `8 g + i`. -/
def hd (g : Fin 2) (i : Fin 8) : Fin 16 := ⟨8 * g.val + i.val, by omega⟩

/-- The head's maxima, sums and products from its keys, values and queries and the page weights `w`. -/
def headM (k : Vec F S16x32x1x128 .f32) (q : Vec F S32x1x128 .f32) : FVec F S1x32x1 .f32 := k0_pay9 (k0_pay4 k) q
def headL (w : FVec F S32x512 .f32) (k : Vec F S16x32x1x128 .f32) (q : Vec F S32x1x128 .f32) : FVec F S1x32x1 .f32 := k0_pay10 w (k0_pay4 k) q
def headA (w : FVec F S32x512 .f32) (k v : Vec F S16x32x1x128 .f32) (q : Vec F S32x1x128 .f32) : FVec F S1x1x32x128 .f32 :=
  k0_pay11 w (k0_pay4 k) (k0_pay5 v) q

/-- One head, then `K`: read its keys, values, queries; store its column of maxima, its column of sums, its products. -/
def headStep (w : FVec F S32x512 .f32) (g : Fin 2) (i : Fin 8) (K : BP F) : BP F :=
  .op (.load kM (rHead (hd g i)).toLoadRect (View.loadsAt_vmem h_S16x32x1x128)) fun k : Vec F S16x32x1x128 .f32 =>
  .op (.load vM (rHead (hd g i)).toLoadRect (View.loadsAt_vmem h_S16x32x1x128)) fun v : Vec F S16x32x1x128 .f32 =>
  .op (.load qM (rQ (hd g i)).toLoadRect (View.loadsAt_vmem h_S32x1x128)) fun q : Vec F S32x1x128 .f32 =>
  .op (.load mM (rCol g i).toLoadRect (View.loadsAt_vmem h_S1x32x1)) fun _ =>
  .op (.store mM (rCol g i) (headM k q) Finset.univ (View.stores_vmem_bits_univ h_S1x32x1 rfl) (.inl rfl)) fun _ =>
  .op (.load lM (rCol g i).toLoadRect (View.loadsAt_vmem h_S1x32x1)) fun _ =>
  .op (.store lM (rCol g i) (headL w k q) Finset.univ (View.stores_vmem_bits_univ h_S1x32x1 rfl) (.inl rfl)) fun _ =>
  .op (.load aM (rAcc1 g i).toLoadRect (View.loadsAt_vmem h_S1x1x32x128)) fun _ =>
  .op (.store aM (rAcc1 g i) (headA w k v q) Finset.univ (View.stores_vmem_bits_univ h_S1x1x32x128 rfl) (.inl rfl)) fun _ => K

/-! ## One exchange -/

/-- The products of one half rounded to bf16. -/
def roundA (a : Vec F S1x8x32x128 .f32) : FVec F S1x8x32x128 .bf16 := k0_pay69 a

/-- Round half `g`'s products, then send its maxima, sums and rounded products to round `r`'s partner. -/
def sendStep (d : Dev nD) (r : Fin 5) (g : Fin 2) (K : BP F) : BP F :=
  .op (.load aM (rAcc g).toLoadRect (View.loadsAt_vmem h_S1x8x32x128)) fun a : Vec F S1x8x32x128 .f32 =>
  .op (.load bM (rAcc g).toLoadRect (View.loadsAt_vmem h_S1x8x32x128)) fun _ =>
  .op (.store bM (rAcc g) (roundA a) Finset.univ (View.stores_vmem h_S1x8x32x128 ((Memref.isWhole_whole _).storeExact_slice rfl _ (packedB g)) (fun _ => rfl)) (.inl rfl)) fun _ =>
  .op (.enqueueDma (mSrc g) (.remote (Dev.tc (ptr r d)) (mDst r g) (.dma (sSem r g 0))) (.dma (rSem r g 0))
    ((View.wordExact_bits rfl).reshape _ _) ((View.wordExact_bits rfl).reshape _ _) ⟨⟨rfl, Or.inl rfl⟩, trivial⟩) fun _ =>
  .op (.enqueueDma (lSrc g) (.remote (Dev.tc (ptr r d)) (lDst r g) (.dma (sSem r g 1))) (.dma (rSem r g 1))
    ((View.wordExact_bits rfl).reshape _ _) ((View.wordExact_bits rfl).reshape _ _) ⟨⟨rfl, Or.inl rfl⟩, trivial⟩) fun _ =>
  .op (.enqueueDma (bSrc g) (.remote (Dev.tc (ptr r d)) (bDst r g) (.dma (sSem r g 2))) (.dma (rSem r g 2))
    (((Memref.isWhole_whole _).wordExact_slice rfl _ (wordsB g)).reshape _ _) (((Memref.isWhole_whole _).wordExact_slice rfl _ (wordsA r g)).reshape _ _) ⟨⟨rfl, Or.inl rfl⟩, trivial⟩) fun _ => K

/-- Wait for the three sends and the three landings of round `r`, half `g`. -/
def waitStep (r : Fin 5) (g : Fin 2) (K : BP F) : BP F :=
  .op (.waitDma2 (sSem r g 0) (mDst r g) (mSrc g) ((View.wordExact_bits rfl).reshape _ _) ((View.wordExact_bits rfl).reshape _ _)) fun _ =>
  .op (.waitDma2 (rSem r g 0) (mSrc g) (mDst r g) ((View.wordExact_bits rfl).reshape _ _) ((View.wordExact_bits rfl).reshape _ _)) fun _ =>
  .op (.waitDma2 (sSem r g 1) (lDst r g) (lSrc g) ((View.wordExact_bits rfl).reshape _ _) ((View.wordExact_bits rfl).reshape _ _)) fun _ =>
  .op (.waitDma2 (rSem r g 1) (lSrc g) (lDst r g) ((View.wordExact_bits rfl).reshape _ _) ((View.wordExact_bits rfl).reshape _ _)) fun _ =>
  .op (.waitDma2 (sSem r g 2) (bDst r g) (bSrc g) (((Memref.isWhole_whole _).wordExact_slice rfl _ (wordsA r g)).reshape _ _)
    (((Memref.isWhole_whole _).wordExact_slice rfl _ (wordsB g)).reshape _ _)) fun _ =>
  .op (.waitDma2 (rSem r g 2) (bSrc g) (bDst r g) (((Memref.isWhole_whole _).wordExact_slice rfl _ (wordsB g)).reshape _ _)
    (((Memref.isWhole_whole _).wordExact_slice rfl _ (wordsA r g)).reshape _ _)) fun _ => K

/-- The merged maxima, sums and products of one's own state `(ma, la, aa)` and the partner's `(mb, lb, ab)`. -/
def mergeM (ma : Vec F S1x32x8 .f32) (mb : Vec F S1x1x32x8 .f32) : FVec F S1x32x8 .f32 := k0_pay137 (k0_pay130 ma) (k0_pay133 mb)
def mergeL (ma la : Vec F S1x32x8 .f32) (mb lb : Vec F S1x1x32x8 .f32) : FVec F S1x32x8 .f32 :=
  k0_pay138 (k0_pay130 ma) (k0_pay131 la) (k0_pay133 mb) lb
def mergeA (ma : Vec F S1x32x8 .f32) (aa : Vec F S1x8x32x128 .f32) (mb : Vec F S1x1x32x8 .f32) (ab : Vec F S1x1x8x32x128 .bf16) :
    FVec F S1x8x32x128 .f32 := k0_pay139 (k0_pay130 ma) (k0_pay132 aa) (k0_pay133 mb) ab

/-- Merge what landed in round `r`, half `g`, into the running state. -/
def mergeStep (r : Fin 5) (g : Fin 2) (K : BP F) : BP F :=
  .op (.load mM (rHalf g).toLoadRect (View.loadsAt_vmem h_S1x32x8)) fun ma : Vec F S1x32x8 .f32 =>
  .op (.load lM (rHalf g).toLoadRect (View.loadsAt_vmem h_S1x32x8)) fun la : Vec F S1x32x8 .f32 =>
  .op (.load aM (rAcc g).toLoadRect (View.loadsAt_vmem h_S1x8x32x128)) fun aa : Vec F S1x8x32x128 .f32 =>
  .op (.load rmM (rSlot r g).toLoadRect (View.loadsAt_vmem h_S1x1x32x8)) fun mb : Vec F S1x1x32x8 .f32 =>
  .op (.load rlM (rSlot r g).toLoadRect (View.loadsAt_vmem h_S1x1x32x8)) fun lb : Vec F S1x1x32x8 .f32 =>
  .op (.load raM (rSlotA r g).toLoadRect (View.loadsAt_vmem h_S1x1x8x32x128)) fun ab : Vec F S1x1x8x32x128 .bf16 =>
  .op (.load mM (rHalf g).toLoadRect (View.loadsAt_vmem h_S1x32x8)) fun _ =>
  .op (.store mM (rHalf g) (mergeM ma mb) Finset.univ (View.stores_vmem_bits_univ h_S1x32x8 rfl) (.inl rfl)) fun _ =>
  .op (.load lM (rHalf g).toLoadRect (View.loadsAt_vmem h_S1x32x8)) fun _ =>
  .op (.store lM (rHalf g) (mergeL ma la mb lb) Finset.univ (View.stores_vmem_bits_univ h_S1x32x8 rfl) (.inl rfl)) fun _ =>
  .op (.load aM (rAcc g).toLoadRect (View.loadsAt_vmem h_S1x8x32x128)) fun _ =>
  .op (.store aM (rAcc g) (mergeA ma aa mb ab) Finset.univ (View.stores_vmem_bits_univ h_S1x8x32x128 rfl) (.inl rfl)) fun _ => K

/-! ## The two ends -/

/-- The page weights of device `d`: how often each of its pages is read by each sequence, one copy per position of the page. -/
def wTab (d : Dev nD) (ln : Vec F S32x1 .i32) (bt : Vec F S32x256 .i32) : FVec F S32x512 .f32 :=
  k0_pay3 (F := F) (Scalar.remsi (Scalar.divsi (Dev.word d) 16#32) 2#32)
    (Scalar.addi (Scalar.muli (Scalar.remsi (Scalar.divsi (Dev.word d) 4#32) 4#32) 4#32) (Scalar.remsi (Scalar.divsi (Dev.word d) 1#32) 4#32))
    (k0_pay2 ln) bt

/-- The start of the two page copies, the handshake with the five partners, the page weights, the end of the copies. -/
def startStep (K : Dev nD → FVec F S32x512 .f32 → BP F) : BP F :=
  .op .deviceId fun d : Dev nD =>
  .op (.enqueueDma (kSrc d) (.here kM) (.dma (pSem 0)) (View.wordExact_bits rfl) (Memref.isWhole_whole _).wordExact ⟨Or.inl rfl, trivial⟩) fun _ =>
  .op (.enqueueDma (vSrc d) (.here vM) (.dma (pSem 1)) (View.wordExact_bits rfl) (Memref.isWhole_whole _).wordExact ⟨Or.inl rfl, trivial⟩) fun _ =>
  .op (.semSignal (ptr 0 d, .tc) barS (1#32 : BitVec 32).toInt) fun _ =>
  .op (.semSignal (ptr 1 d, .tc) barS (1#32 : BitVec 32).toInt) fun _ =>
  .op (.semSignal (ptr 2 d, .tc) barS (1#32 : BitVec 32).toInt) fun _ =>
  .op (.semSignal (ptr 3 d, .tc) barS (1#32 : BitVec 32).toInt) fun _ =>
  .op (.semSignal (ptr 4 d, .tc) barS (1#32 : BitVec 32).toInt) fun _ =>
  .op (.semWait barS (5#32 : BitVec 32).toInt) fun _ =>
  .op (.load lnM (Rect.unit (s := S32x1) ![0, 0] S32x1.size inb_S32x1_S32x1_0_0).toLoadRect (View.loadsAt_vmem h_S32x1)) fun ln : Vec F S32x1 .i32 =>
  .op (.load btM (Rect.unit (s := S32x256) ![0, 0] S32x256.size inb_S32x256_S32x256_0_0).toLoadRect (View.loadsAt_vmem h_S32x256)) fun bt : Vec F S32x256 .i32 =>
  .op (.waitDma2 (pSem 0) (kSrc d) kM (View.wordExact_bits rfl) (Memref.isWhole_whole _).wordExact) fun _ =>
  .op (.waitDma2 (pSem 1) (vSrc d) vM (View.wordExact_bits rfl) (Memref.isWhole_whole _).wordExact) fun _ => K d (wTab d ln bt)

/-- The result from the two halves' sums and all products. -/
def outOf (l0 l1 : Vec F S1x32x8 .f32) (a : Vec F S2x8x32x128 .f32) : FVec F S32x1x16x128 .f32 := k0_pay1 (k0_pay249 a) (k0_pay250 l0 l1)

/-- Divide the products by the sums and store the result. -/
def endStep : BP F :=
  .op (.load lM (rHalf 0).toLoadRect (View.loadsAt_vmem h_S1x32x8)) fun l0 : Vec F S1x32x8 .f32 =>
  .op (.load lM (rHalf 1).toLoadRect (View.loadsAt_vmem h_S1x32x8)) fun l1 : Vec F S1x32x8 .f32 =>
  .op (.load aM (Rect.unit (s := S2x8x32x128) ![0, 0, 0, 0] S2x8x32x128.size inb_S2x8x32x128_S2x8x32x128_0_0_0_0).toLoadRect (View.loadsAt_vmem h_S2x8x32x128)) fun a : Vec F S2x8x32x128 .f32 =>
  .op (.load oM (Rect.unit (s := S32x1x16x128) ![0, 0, 0, 0] S32x1x16x128.size inb_S32x1x16x128_S32x1x16x128_0_0_0_0).toLoadRect (View.loadsAt_vmem h_S32x1x16x128)) fun _ =>
  .op (.store oM (Rect.unit (s := S32x1x16x128) ![0, 0, 0, 0] S32x1x16x128.size inb_S32x1x16x128_S32x1x16x128_0_0_0_0) (outOf l0 l1 a) Finset.univ (View.stores_vmem_bits_univ h_S32x1x16x128 rfl) (.inl rfl)) fun _ =>
  .ret ⟨⟩

/-! ## The whole body -/

/-- The eight heads of half `g`, then `K`. -/
def heads (w : FVec F S32x512 .f32) (g : Fin 2) (K : BP F) : BP F :=
  headStep w g 0 <| headStep w g 1 <| headStep w g 2 <| headStep w g 3 <| headStep w g 4 <| headStep w g 5 <| headStep w g 6 <| headStep w g 7 K

/-- Take in round `r` for half `g` and send the merged state on in round `r'`. -/
def turn (d : Dev nD) (r r' : Fin 5) (g : Fin 2) (K : BP F) : BP F := waitStep r g <| mergeStep r g <| sendStep d r' g K

/-- The body after its start. -/
def rest (d : Dev nD) (w : FVec F S32x512 .f32) : BP F :=
  heads w 0 <| sendStep d 0 0 <| heads w 1 <| sendStep d 0 1 <|
  turn d 0 1 0 <| turn d 0 1 1 <| turn d 1 2 0 <| turn d 1 2 1 <| turn d 2 3 0 <| turn d 2 3 1 <| turn d 3 4 0 <| turn d 3 4 1 <|
  waitStep 4 0 <| mergeStep 4 0 <| waitStep 4 1 <| mergeStep 4 1 endStep

def steps : BP F := startStep rest

abbrev bodyProg : BP F :=
  cc0_body qM (Memref.isWhole_whole _) kH (Memref.isWhole_whole _) vH (Memref.isWhole_whole _) btM (Memref.isWhole_whole _) lnM (Memref.isWhole_whole _)
    oM (Memref.isWhole_whole _) kM (Memref.isWhole_whole _) vM (Memref.isWhole_whole _) mM (Memref.isWhole_whole _) lM (Memref.isWhole_whole _)
    aM (Memref.isWhole_whole _) bM (Memref.isWhole_whole _) rmM (Memref.isWhole_whole _) rlM (Memref.isWhole_whole _) raM (Memref.isWhole_whole _) ldS sdS rcS

set_option maxRecDepth 100000 in
set_option maxHeartbeats 4000000 in
/-- The kernel's body is the sequence of its steps. -/
theorem body_eq_steps : bodyProg (F := F) = steps := by
  exact (rfl : (bodyProg (F := F)) = steps)

end Cert.PagedAttn

end
-- ==== Proof.Pieces.lean ====
/-
# Pieces of a device's buffers

The kernel works on rectangles of its scratch buffers: a column of a half while a head is computed, a half while it is
sent or merged, a landing slot. `piece c M r v` is the ownership of the rectangle `r` of the buffer `M` on device `c`,
holding `v`. The module gives the load and the store of a piece, the cutting of a buffer into pieces and their gluing.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the pipeline's rounds beside the exchange's, whose duties are named by `Fin 5`. -/
abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-- The weakest precondition of a program of device `c`. -/
abbrev wpB (c : Dev nD) (P : BP F) (Q : PUnit → sProp 𝕄) : sProp 𝕄 :=
  wp frame (wpE (defs₀ (F := F)) 𝒱₀ (c : Thread nD τ) none) Set.univ P Q

section Piece

variable (c : Dev nD) {sp : Space} {s : Shape} {e : EltTy}

/-- Rectangle `r` of `M` on device `c`, holding `v`. -/
def piece (M : Memref sig .tc sp s e) (r : Rect s) (v : r.shape.Idx → Elt F e) : sProp 𝕄 :=
  iprop(∃ f : Buf (Elt F) (M.view.loc (c : Thread nD τ)), ⌜(M.view.slice r).read (Elt F) f = v⌝
    ∗ (M.view.loc (c : Thread nD τ) ↦[(M.view.slice r).set]{fullShare} f))

omit [FloatOps F] in
instance piece_storable (M : Memref sig .tc sp s e) (r : Rect s) (v : r.shape.Idx → Elt F e) :
    BI.Storable (upEmb : UEmb _ 𝕄) (piece c M r v) := by unfold piece; infer_instance

/-- A load of a piece gives its value. -/
theorem load_piece {cs : CoreSpace} {M : Memref sig .tc cs s e} {r : Rect s} {hl : M.view.LoadsAt r.toLoadRect} {v : r.shape.Idx → Elt F e}
    {k : (r.shape.Idx → Elt F e) → BP F} {Q : PUnit → sProp 𝕄} :
    piece c M r v ⊢ iprop((piece c M r v -∗ wpB c (k v) Q) -∗ wpB c (.op (.load M r.toLoadRect hl) k) Q) := by
  unfold piece
  iintro ⟨%f, %hf, H⟩ Hk
  iapply (wp_load_rect 𝒱₀ (c : Thread nD τ) none Set.univ (m := M) (r := r) (Finset.Subset.refl _)) $$ H
  iintro H
  rw [show ((M.access r).read (Elt F) f) = v from hf]
  iapply Hk
  iexists f
  isplitr; · ipureintro; exact hf
  iexact H

/-- A store over a piece replaces its value. -/
theorem store_piece {cs : CoreSpace} {M : Memref sig .tc cs s e} {r : Rect s} {w : r.shape.Idx → Elt F e} {hx : (M.access r).Stores Finset.univ}
    {hm : Finset.univ = Finset.univ ∨ ∀ a, r.stride a = 1} {v : r.shape.Idx → Elt F e} {k : PUnit → BP F} {Q : PUnit → sProp 𝕄} :
    piece c M r v ⊢ iprop((piece c M r w -∗ wpB c (k ⟨⟩) Q) -∗ wpB c (.op (.store M r w Finset.univ hx hm) k) Q) := by
  unfold piece
  iintro ⟨%f, %hf, H⟩ Hk
  iapply (wp_store 𝒱₀ (c : Thread nD τ) none Set.univ (m := M) (r := r) (w := w) (Mk := Finset.univ)
    (S := (M.access r).set) (View.setOn_subset_set _ _)) $$ H
  iintro H
  iapply Hk
  iexists ((M.access r).write (Elt F) f w Finset.univ)
  isplitr; · ipureintro; exact View.read_write_univ (v := M.view.slice r) f w
  iexact H

end Piece

/-! ## Cutting and gluing -/

section Glue

variable (c : Dev nD) {sp : Space} {s : Shape} {e : EltTy} (M : Memref sig .tc sp s e) {T : Type} [Fintype T] [DecidableEq T]

/-- A family of rectangles of which no two share an element. -/
def Apart (r : T → Rect s) : Prop := ∀ t t' x, x ∈ (r t).set → x ∈ (r t').set → t = t'

/-- All of `M` on device `c`, at some contents. -/
def held : sProp 𝕄 := iprop(∃ f : Buf (Elt F) (M.view.loc (c : Thread nD τ)), M.view.loc (c : Thread nD τ) ↦[M.view.set]{fullShare} f)
/-- A rectangle of `M` on device `c`, at some contents. -/
def slot (r : Rect s) : sProp 𝕄 := iprop(∃ v, piece (F := F) c M r v)

omit [FloatOps F] in
instance slot_storable (r : Rect s) : BI.Storable (upEmb : UEmb _ 𝕄) (slot (F := F) c M r) := by unfold slot; infer_instance

/-- The elements of a rectangle of `M`. -/
abbrev sset (r : Rect s) : Finset (Idx (M.view.loc (c : Thread nD τ))) := (M.view.slice r).set

omit [Fintype T] [DecidableEq T] in
theorem mem_sset {r : Rect s} {i : Idx (M.view.loc (c : Thread nD τ))} : i ∈ sset c M r ↔ ∃ x ∈ r.set, M.view.emb x = i := by
  have e : sset c M r = r.set.map M.view.emb := View.set_slice (v := M.view) r
  rw [e, Finset.mem_map]

omit [Fintype T] in
theorem disjoint_sets {r : T → Rect s} (hd : Apart r) : ∀ t, ∀ t', t ≠ t' → Disjoint (sset c M (r t)) (sset c M (r t')) := by
  intro t t' h
  rw [Finset.disjoint_left]
  intro i hi hi'
  obtain ⟨x, hx, rfl⟩ := (mem_sset c M).mp hi
  obtain ⟨y, hy, e⟩ := (mem_sset c M).mp hi'
  have := M.view.emb.injective e
  subst this
  exact h (hd t t' y hx hy)

omit [FloatOps F] in
/-- A buffer cut along rectangles that cover it once. -/
theorem cut (r : T → Rect s) (hd : Apart r) (hc : ∀ x, ∃ t, x ∈ (r t).set) : held (F := F) c M ⊢ bigSep Finset.univ fun t => slot (F := F) c M (r t) := by
  unfold held
  iintro ⟨%f, H⟩
  have hS : (Finset.univ.biUnion fun t => sset c M (r t)) = (M.view.set : Finset (Idx (M.view.loc (c : Thread nD τ)))) := by
    ext i
    simp only [Finset.mem_biUnion, Finset.mem_univ, true_and]
    constructor
    · rintro ⟨t, ht⟩
      obtain ⟨x, hx, rfl⟩ := (mem_sset c M).mp ht
      exact M.view.emb_mem_set x
    · intro hi
      obtain ⟨x, -, rfl⟩ := Finset.mem_map.mp hi
      obtain ⟨t, ht⟩ := hc x
      exact ⟨t, (mem_sset c M).mpr ⟨x, ht, rfl⟩⟩
  have e : (M.view.loc (c : Thread nD τ) ↦[M.view.set]{fullShare} f : sProp 𝕄)
      = bigSep Finset.univ fun t => (M.view.loc (c : Thread nD τ) ↦[sset c M (r t)]{fullShare} f : sProp 𝕄) := by
    rw [← pointsTo_biUnion Finset.univ _ (fun t _ t' _ => disjoint_sets c M hd t t'), hS]
  ihave H' := (Entails.of_eq e) $$ H
  have h : ∀ t ∈ (Finset.univ : Finset T), (M.view.loc (c : Thread nD τ) ↦[sset c M (r t)]{fullShare} f : sProp 𝕄) ⊢ slot (F := F) c M (r t) := fun t _ => by
    unfold slot
    iintro H
    iexists _
    unfold piece
    iexists f
    isplitr; · ipureintro; rfl
    iexact H
  have h' : (bigSep Finset.univ fun t => (M.view.loc (c : Thread nD τ) ↦[sset c M (r t)]{fullShare} f : sProp 𝕄))
      ⊢ (bigSep Finset.univ fun t => slot (F := F) c M (r t) : sProp 𝕄) := bigSep_mono h
  iapply h'
  iexact H'

omit [FloatOps F] [Fintype T] [DecidableEq T] in
theorem read_congr_on (r : Rect s) {f g : Buf (Elt F) (M.view.loc (c : Thread nD τ))} (h : ∀ i ∈ sset c M r, f i = g i) :
    (M.view.slice r).read (Elt F) f = (M.view.slice r).read (Elt F) g := by
  funext x
  rw [View.read_apply, View.read_apply]
  exact congrArg _ (h _ (View.emb_mem_set (M.view.slice r) x))

/-- Pieces glued over a set `S` of elements they make up: one contents, whose reading along each rectangle is that piece's value. -/
theorem glueOn (r : T → Rect s) (hd : Apart r) (v : ∀ t, (r t).shape.Idx → Elt F e) (S : Finset (Idx (M.view.loc (c : Thread nD τ))))
    (hS : ∀ i, i ∈ S ↔ ∃ t, i ∈ sset c M (r t)) :
    (bigSep Finset.univ fun t => piece (F := F) c M (r t) (v t))
      ⊢ iprop(∃ f : Buf (Elt F) (M.view.loc (c : Thread nD τ)), ⌜∀ t, (M.view.slice (r t)).read (Elt F) f = v t⌝ ∗ (M.view.loc (c : Thread nD τ) ↦[S]{fullShare} f)) := by
  have hU : (Finset.univ.biUnion fun t => sset c M (r t)) = S := by
    ext i
    rw [hS i]
    simp only [Finset.mem_biUnion, Finset.mem_univ, true_and]
  haveI : Nonempty (Buf (Elt F) (M.view.loc (c : Thread nD τ))) := ⟨fun _ => Classical.choice inferInstance⟩
  unfold piece
  iintro H
  ihave H1 := (BI.bigSep_exists_pi Finset.univ fun t (f : Buf (Elt F) (M.view.loc (c : Thread nD τ))) =>
    (iprop(⌜(M.view.slice (r t)).read (Elt F) f = v t⌝ ∗ (M.view.loc (c : Thread nD τ) ↦[sset c M (r t)]{fullShare} f)) : sProp 𝕄)) $$ H
  icases H1 with ⟨%fs, H1⟩
  ihave H2 := (BI.bigSep_pure_sep Finset.univ (fun t => (M.view.slice (r t)).read (Elt F) (fs t) = v t)
    (fun t => (M.view.loc (c : Thread nD τ) ↦[sset c M (r t)]{fullShare} (fs t) : sProp 𝕄))) $$ H1
  icases H2 with ⟨%hv, H2⟩
  ihave H3 := (pointsTo_biUnion_join (ℓ := M.view.loc (c : Thread nD τ)) (q := fullShare) Finset.univ (fun t => sset c M (r t)) fs
    (Classical.choice inferInstance) (fun t _ t' _ => disjoint_sets c M hd t t')) $$ H2
  icases H3 with ⟨%f, %hf, H3⟩
  iexists f
  isplitr
  · ipureintro
    intro t
    rw [← hv t (Finset.mem_univ t)]
    exact read_congr_on c M (r t) fun i hi => hf t (Finset.mem_univ t) i hi
  rw [← hU]
  iexact H3

/-- Pieces glued to a rectangle `R` they make up: `at'` names, for each index of `R`, the piece that holds it and where. -/
theorem glue (r : T → Rect s) (hd : Apart r) (v : ∀ t, (r t).shape.Idx → Elt F e) (R : Rect s)
    (hS : ∀ x, x ∈ R.set ↔ ∃ t, x ∈ (r t).set) (at' : ∀ x : R.shape.Idx, Σ t : T, (r t).shape.Idx) (hat : ∀ x, (r (at' x).1).emb (at' x).2 = R.emb x) :
    (bigSep Finset.univ fun t => piece (F := F) c M (r t) (v t)) ⊢ piece (F := F) c M R fun x => v (at' x).1 (at' x).2 := by
  refine (glueOn c M r hd v (sset c M R) fun i => ?_).trans ?_
  · constructor
    · intro hi
      obtain ⟨x, hx, rfl⟩ := (mem_sset c M).mp hi
      obtain ⟨t, ht⟩ := (hS x).mp hx
      exact ⟨t, (mem_sset c M).mpr ⟨x, ht, rfl⟩⟩
    · rintro ⟨t, ht⟩
      obtain ⟨x, hx, rfl⟩ := (mem_sset c M).mp ht
      exact (mem_sset c M).mpr ⟨x, (hS x).mpr ⟨t, hx⟩, rfl⟩
  · unfold piece
    iintro ⟨%f, %hf, H⟩
    iexists f
    isplitr
    · ipureintro
      funext x
      rw [← hf]
      show M.view.read (Elt F) f (R.emb x) = M.view.read (Elt F) f ((r (at' x).1).emb (at' x).2)
      rw [hat]
    iexact H

/-- Pieces glued to all of the buffer, the contents read back at every index. -/
theorem glueAll (r : T → Rect s) (hd : Apart r) (v : ∀ t, (r t).shape.Idx → Elt F e) (hc : ∀ x, ∃ t, x ∈ (r t).set) :
    (bigSep Finset.univ fun t => piece (F := F) c M (r t) (v t))
      ⊢ iprop(∃ f : Buf (Elt F) (M.view.loc (c : Thread nD τ)), ⌜∀ t, (M.view.slice (r t)).read (Elt F) f = v t⌝ ∗ (M.view.loc (c : Thread nD τ) ↦[M.view.set]{fullShare} f)) := by
  refine glueOn c M r hd v M.view.set fun i => ?_
  constructor
  · intro hi
    obtain ⟨x, -, rfl⟩ := Finset.mem_map.mp hi
    obtain ⟨t, ht⟩ := hc x
    exact ⟨t, (mem_sset c M).mpr ⟨x, ht, rfl⟩⟩
  · rintro ⟨t, ht⟩
    obtain ⟨x, hx, rfl⟩ := (mem_sset c M).mp ht
    exact M.view.emb_mem_set x

/-- Slots glued to all of the buffer. -/
theorem glueHeld (r : T → Rect s) (hd : Apart r) (hc : ∀ x, ∃ t, x ∈ (r t).set) :
    (bigSep Finset.univ fun t => slot (F := F) c M (r t)) ⊢ held (F := F) c M := by
  haveI : ∀ t, Nonempty ((r t).shape.Idx → Elt F e) := fun t => ⟨fun _ => Classical.choice inferInstance⟩
  unfold slot
  iintro H
  ihave H1 := (BI.bigSep_exists_pi Finset.univ fun t (v : (r t).shape.Idx → Elt F e) => (piece (F := F) c M (r t) v : sProp 𝕄)) $$ H
  icases H1 with ⟨%v, H1⟩
  ihave H2 := (glueAll c M r hd v hc) $$ H1
  icases H2 with ⟨%f, -, H2⟩
  unfold held
  iexists f
  iexact H2

end Glue

/-! ## The kernel's rectangles -/

theorem rCol_mem (g : Fin 2) (i : Fin 8) (x : S2x32x8.Idx) : x ∈ (rCol g i).set ↔ (x 0).val = g.val ∧ (x 2).val = i.val := by
  rw [Rect.mem_set_unit]
  have h1 : (x 1).val < 32 := (x 1).isLt
  constructor
  · intro h
    have a0 : g.val ≤ (x 0).val ∧ (x 0).val < g.val + 1 := h 0
    have a2 : i.val ≤ (x 2).val ∧ (x 2).val < i.val + 1 := h 2
    omega
  · rintro ⟨e0, e2⟩ a
    fin_cases a
    · show g.val ≤ (x 0).val ∧ (x 0).val < g.val + 1; omega
    · show 0 ≤ (x 1).val ∧ (x 1).val < 0 + 32; omega
    · show i.val ≤ (x 2).val ∧ (x 2).val < i.val + 1; omega

theorem rHalf_mem (g : Fin 2) (x : S2x32x8.Idx) : x ∈ (rHalf g).set ↔ (x 0).val = g.val := by
  rw [Rect.mem_set_unit]
  have h1 : (x 1).val < 32 := (x 1).isLt
  have h2 : (x 2).val < 8 := (x 2).isLt
  constructor
  · intro h
    have a0 : g.val ≤ (x 0).val ∧ (x 0).val < g.val + 1 := h 0
    omega
  · rintro e0 a
    fin_cases a
    · show g.val ≤ (x 0).val ∧ (x 0).val < g.val + 1; omega
    · show 0 ≤ (x 1).val ∧ (x 1).val < 0 + 32; omega
    · show 0 ≤ (x 2).val ∧ (x 2).val < 0 + 8; omega

theorem rAcc1_mem (g : Fin 2) (i : Fin 8) (x : S2x8x32x128.Idx) : x ∈ (rAcc1 g i).set ↔ (x 0).val = g.val ∧ (x 1).val = i.val := by
  rw [Rect.mem_set_unit]
  have h2 : (x 2).val < 32 := (x 2).isLt
  have h3 : (x 3).val < 128 := (x 3).isLt
  constructor
  · intro h
    have a0 : g.val ≤ (x 0).val ∧ (x 0).val < g.val + 1 := h 0
    have a1 : i.val ≤ (x 1).val ∧ (x 1).val < i.val + 1 := h 1
    omega
  · rintro ⟨e0, e1⟩ a
    fin_cases a
    · show g.val ≤ (x 0).val ∧ (x 0).val < g.val + 1; omega
    · show i.val ≤ (x 1).val ∧ (x 1).val < i.val + 1; omega
    · show 0 ≤ (x 2).val ∧ (x 2).val < 0 + 32; omega
    · show 0 ≤ (x 3).val ∧ (x 3).val < 0 + 128; omega

theorem rAcc_mem (g : Fin 2) (x : S2x8x32x128.Idx) : x ∈ (rAcc g).set ↔ (x 0).val = g.val := by
  rw [Rect.mem_set_unit]
  have h1 : (x 1).val < 8 := (x 1).isLt
  have h2 : (x 2).val < 32 := (x 2).isLt
  have h3 : (x 3).val < 128 := (x 3).isLt
  constructor
  · intro h
    have a0 : g.val ≤ (x 0).val ∧ (x 0).val < g.val + 1 := h 0
    omega
  · rintro e0 a
    fin_cases a
    · show g.val ≤ (x 0).val ∧ (x 0).val < g.val + 1; omega
    · show 0 ≤ (x 1).val ∧ (x 1).val < 0 + 8; omega
    · show 0 ≤ (x 2).val ∧ (x 2).val < 0 + 32; omega
    · show 0 ≤ (x 3).val ∧ (x 3).val < 0 + 128; omega

theorem rSlot_mem (r : Fin 5) (g : Fin 2) (x : S5x2x32x8.Idx) : x ∈ (rSlot r g).set ↔ (x 0).val = r.val ∧ (x 1).val = g.val := by
  rw [Rect.mem_set_unit]
  have h2 : (x 2).val < 32 := (x 2).isLt
  have h3 : (x 3).val < 8 := (x 3).isLt
  constructor
  · intro h
    have a0 : r.val ≤ (x 0).val ∧ (x 0).val < r.val + 1 := h 0
    have a1 : g.val ≤ (x 1).val ∧ (x 1).val < g.val + 1 := h 1
    omega
  · rintro ⟨e0, e1⟩ a
    fin_cases a
    · show r.val ≤ (x 0).val ∧ (x 0).val < r.val + 1; omega
    · show g.val ≤ (x 1).val ∧ (x 1).val < g.val + 1; omega
    · show 0 ≤ (x 2).val ∧ (x 2).val < 0 + 32; omega
    · show 0 ≤ (x 3).val ∧ (x 3).val < 0 + 8; omega

theorem rSlotA_mem (r : Fin 5) (g : Fin 2) (x : S5x2x8x32x128.Idx) : x ∈ (rSlotA r g).set ↔ (x 0).val = r.val ∧ (x 1).val = g.val := by
  rw [Rect.mem_set_unit]
  have h2 : (x 2).val < 8 := (x 2).isLt
  have h3 : (x 3).val < 32 := (x 3).isLt
  have h4 : (x 4).val < 128 := (x 4).isLt
  constructor
  · intro h
    have a0 : r.val ≤ (x 0).val ∧ (x 0).val < r.val + 1 := h 0
    have a1 : g.val ≤ (x 1).val ∧ (x 1).val < g.val + 1 := h 1
    omega
  · rintro ⟨e0, e1⟩ a
    fin_cases a
    · show r.val ≤ (x 0).val ∧ (x 0).val < r.val + 1; omega
    · show g.val ≤ (x 1).val ∧ (x 1).val < g.val + 1; omega
    · show 0 ≤ (x 2).val ∧ (x 2).val < 0 + 8; omega
    · show 0 ≤ (x 3).val ∧ (x 3).val < 0 + 32; omega
    · show 0 ≤ (x 4).val ∧ (x 4).val < 0 + 128; omega

/-! The families the kernel uses: no two rectangles meet, and together they cover. -/

theorem apart_cols : Apart fun t : Fin 2 × Fin 8 => rCol t.1 t.2 := fun t t' x h h' => by
  have a := (rCol_mem _ _ x).mp h; have a' := (rCol_mem _ _ x).mp h'
  exact Prod.ext (Fin.ext (by omega)) (Fin.ext (by omega))
theorem cover_cols (x : S2x32x8.Idx) : ∃ t : Fin 2 × Fin 8, x ∈ (rCol t.1 t.2).set := ⟨(x 0, x 2), (rCol_mem _ _ x).mpr ⟨rfl, rfl⟩⟩
theorem apart_accs : Apart fun t : Fin 2 × Fin 8 => rAcc1 t.1 t.2 := fun t t' x h h' => by
  have a := (rAcc1_mem _ _ x).mp h; have a' := (rAcc1_mem _ _ x).mp h'
  exact Prod.ext (Fin.ext (by omega)) (Fin.ext (by omega))
theorem cover_accs (x : S2x8x32x128.Idx) : ∃ t : Fin 2 × Fin 8, x ∈ (rAcc1 t.1 t.2).set := ⟨(x 0, x 1), (rAcc1_mem _ _ x).mpr ⟨rfl, rfl⟩⟩
theorem apart_col (g : Fin 2) : Apart fun i : Fin 8 => rCol g i := fun t t' x h h' =>
  (Prod.mk.inj (apart_cols (g, t) (g, t') x h h')).2
theorem apart_acc1 (g : Fin 2) : Apart fun i : Fin 8 => rAcc1 g i := fun t t' x h h' =>
  (Prod.mk.inj (apart_accs (g, t) (g, t') x h h')).2
theorem apart_half : Apart rHalf := fun t t' x h h' => by
  have a := (rHalf_mem _ x).mp h; have a' := (rHalf_mem _ x).mp h'
  exact Fin.ext (by omega)
theorem cover_half (x : S2x32x8.Idx) : ∃ t, x ∈ (rHalf t).set := ⟨x 0, (rHalf_mem _ x).mpr rfl⟩
theorem apart_acc : Apart rAcc := fun t t' x h h' => by
  have a := (rAcc_mem _ x).mp h; have a' := (rAcc_mem _ x).mp h'
  exact Fin.ext (by omega)
theorem cover_acc (x : S2x8x32x128.Idx) : ∃ t, x ∈ (rAcc t).set := ⟨x 0, (rAcc_mem _ x).mpr rfl⟩
theorem apart_slot : Apart fun t : Fin 5 × Fin 2 => rSlot t.1 t.2 := fun t t' x h h' => by
  have a := (rSlot_mem _ _ x).mp h; have a' := (rSlot_mem _ _ x).mp h'
  exact Prod.ext (Fin.ext (by omega)) (Fin.ext (by omega))
theorem cover_slot (x : S5x2x32x8.Idx) : ∃ t : Fin 5 × Fin 2, x ∈ (rSlot t.1 t.2).set := ⟨(x 0, x 1), (rSlot_mem _ _ x).mpr ⟨rfl, rfl⟩⟩
theorem apart_slotA : Apart fun t : Fin 5 × Fin 2 => rSlotA t.1 t.2 := fun t t' x h h' => by
  have a := (rSlotA_mem _ _ x).mp h; have a' := (rSlotA_mem _ _ x).mp h'
  exact Prod.ext (Fin.ext (by omega)) (Fin.ext (by omega))
theorem cover_slotA (x : S5x2x8x32x128.Idx) : ∃ t : Fin 5 × Fin 2, x ∈ (rSlotA t.1 t.2).set := ⟨(x 0, x 1), (rSlotA_mem _ _ x).mpr ⟨rfl, rfl⟩⟩

/-- Where an element of a half lies in its column, and in its head's products. -/
def colIdx (x : S1x32x8.Idx) : S1x32x1.Idx := ValueIdx.ix3 (n0 := 1) (n1 := 32) (n2 := 1) 0 (x 1) 0
def accIdx (x : S1x8x32x128.Idx) : S1x1x32x128.Idx := ValueIdx.ix4 (n0 := 1) (n1 := 1) (n2 := 32) (n3 := 128) 0 0 (x 2) (x 3)
/-- A half's maxima (or sums) put together from its eight columns; its products from its eight heads'. -/
def ofCols (v : Fin 8 → (S1x32x1.Idx → Elt F .f32)) (x : S1x32x8.Idx) : Elt F .f32 := v (x 2) (colIdx x)
def ofAccs (v : Fin 8 → (S1x1x32x128.Idx → Elt F .f32)) (x : S1x8x32x128.Idx) : Elt F .f32 := v (x 1) (accIdx x)

/-- Eight columns make a half. -/
theorem cols_half (c : Dev nD) (M : Memref sig .tc .vmem S2x32x8 .f32) (g : Fin 2) (v : Fin 8 → (S1x32x1.Idx → Elt F .f32)) :
    (bigSep Finset.univ fun i => piece (F := F) c M (rCol g i) (v i)) ⊢ piece (F := F) c M (rHalf g) (ofCols v) :=
  glue c M (fun i => rCol g i) (apart_col g) v (rHalf g)
    (fun x => by
      rw [rHalf_mem]
      exact ⟨fun h => ⟨x 2, (rCol_mem _ _ x).mpr ⟨h, rfl⟩⟩, fun ⟨t, ht⟩ => ((rCol_mem _ _ x).mp ht).1⟩)
    (fun x => ⟨x 2, colIdx x⟩)
    (fun x => by
      have h0 : (x 0).val = 0 := by have : (x 0).val < 1 := (x 0).isLt; omega
      funext a; refine Fin.ext ?_
      fin_cases a
      · show g.val + 1 * 0 = g.val + 1 * (x 0).val; omega
      · show 0 + 1 * (x 1).val = 0 + 1 * (x 1).val; rfl
      · show (x 2).val + 1 * 0 = 0 + 1 * (x 2).val; omega)

/-- Eight heads' products make a half. -/
theorem accs_half (c : Dev nD) (M : Memref sig .tc .vmem S2x8x32x128 .f32) (g : Fin 2) (v : Fin 8 → (S1x1x32x128.Idx → Elt F .f32)) :
    (bigSep Finset.univ fun i => piece (F := F) c M (rAcc1 g i) (v i)) ⊢ piece (F := F) c M (rAcc g) (ofAccs v) :=
  glue c M (fun i => rAcc1 g i) (apart_acc1 g) v (rAcc g)
    (fun x => by
      rw [rAcc_mem]
      exact ⟨fun h => ⟨x 1, (rAcc1_mem _ _ x).mpr ⟨h, rfl⟩⟩, fun ⟨t, ht⟩ => ((rAcc1_mem _ _ x).mp ht).1⟩)
    (fun x => ⟨x 1, accIdx x⟩)
    (fun x => by
      have h0 : (x 0).val = 0 := by have : (x 0).val < 1 := (x 0).isLt; omega
      funext a; refine Fin.ext ?_
      fin_cases a
      · show g.val + 1 * 0 = g.val + 1 * (x 0).val; omega
      · show (x 1).val + 1 * 0 = 0 + 1 * (x 1).val; omega
      · show 0 + 1 * (x 2).val = 0 + 1 * (x 2).val; rfl
      · show 0 + 1 * (x 3).val = 0 + 1 * (x 3).val; rfl)

end Cert.PagedAttn

end
-- ==== Proof.State.lean ====
/-
# What the buffers hold

Each device attends over its own sixteen pages, then merges its running state with five partners in turn. This module
names the contents: the device's inputs, its state after the local attention, and its state after each merge.
-/
module

public import proofs.«01_k».proof.Proof.Pieces

@[expose] public section

noncomputable section

namespace Cert.PagedAttn

open Cert.KernelIdeal Cert.KernelIdeal.Gen
open Idealize.ShloMosaic Idealize.ShloMosaic.TcCoe
open Idealize.SL Idealize.SL.Sem

variable {F : FTy → Type} [FloatOps F] [Named F]

/-- The running state of one half (eight heads): maxima, sums of weights, weighted sums of values. -/
structure St (F : FTy → Type) [FloatOps F] where
  m : Vec F S1x32x8 .f32
  l : Vec F S1x32x8 .f32
  a : Vec F S1x8x32x128 .f32

/-- A half's maxima (or sums) as they lie in a landing slot; its rounded products likewise. -/
def slotM (v : Vec F S1x32x8 .f32) : Vec F S1x1x32x8 .f32 := fun x => v (Shape.reshapeEquiv (s := S1x32x8) (s' := S1x1x32x8) (by decide +kernel) x)
def slotA (v : Vec F S1x8x32x128 .bf16) : Vec F S1x1x8x32x128 .bf16 :=
  fun x => v (Shape.reshapeEquiv (s := S1x8x32x128) (s' := S1x1x8x32x128) (by decide +kernel) x)

/-- One merge: a device's state `s` with its partner's state `t`, whose products come rounded. -/
def merge (s t : St F) : St F where
  m := mergeM s.m (slotM t.m)
  l := mergeL s.m s.l (slotM t.m) (slotM t.l)
  a := mergeA s.m s.a (slotM t.m) (slotA (roundA t.a))

variable (m : (ℓ : Loc nD τ sig) → Buf (Elt F) ℓ)

/-- Device `c`'s queries, page table and lengths, as the launch stages them, and its sixteen pages of keys and of values. -/
def qv (c : Dev nD) : (cc0_stg0_0 : Ref sig .tc).ty.Contents (Elt F) := (win0_0.blk (0 : Fin 1)).view.read (Elt F) (m ((c : Thread nD τ).loc main_arg0))
def btv (c : Dev nD) : (cc0_stg1_0 : Ref sig .tc).ty.Contents (Elt F) := (win0_1.blk (0 : Fin 1)).view.read (Elt F) (m ((c : Thread nD τ).loc main_arg3))
def lnv (c : Dev nD) : (cc0_stg2_0 : Ref sig .tc).ty.Contents (Elt F) := (win0_2.blk (0 : Fin 1)).view.read (Elt F) (m ((c : Thread nD τ).loc main_arg4))
def kv (c : Dev nD) : (cc0_scratch0 : Ref sig .tc).ty.Contents (Elt F) := (kSrc c).view.read (Elt F) (m ((c : Thread nD τ).loc main_arg1))
def vv (c : Dev nD) : (cc0_scratch1 : Ref sig .tc).ty.Contents (Elt F) := (vSrc c).view.read (Elt F) (m ((c : Thread nD τ).loc main_arg2))
/-- Its page weights. -/
def wv (c : Dev nD) : FVec F S32x512 .f32 := wTab c (lnv m c) (btv m c)

/-- The keys, values and queries of one head. -/
def headK (c : Dev nD) (h : Fin 16) : Vec F S16x32x1x128 .f32 := (kM.view.slice (rHead h)).read (Elt F) (kv m c)
def headV (c : Dev nD) (h : Fin 16) : Vec F S16x32x1x128 .f32 := (vM.view.slice (rHead h)).read (Elt F) (vv m c)
def headQ (c : Dev nD) (h : Fin 16) : Vec F S32x1x128 .f32 := (qM.view.slice (rQ h)).read (Elt F) (qv m c)

/-- Half `g` of device `c`'s state after its local attention. -/
def st0 (c : Dev nD) (g : Fin 2) : St F where
  m := ofCols fun i => headM (headK m c (hd g i)) (headQ m c (hd g i))
  l := ofCols fun i => headL (wv m c) (headK m c (hd g i)) (headQ m c (hd g i))
  a := ofAccs fun i => headA (wv m c) (headK m c (hd g i)) (headV m c (hd g i)) (headQ m c (hd g i))

/-- Half `g` of device `c`'s state after `n` merges: the `n`-th with round `n`'s partner. -/
def st : ℕ → Dev nD → Fin 2 → St F
  | 0, c, g => st0 m c g
  | n + 1, c, g => merge (st n c g) (st n (ptr (Fin.ofNat 5 n) c) g)

theorem st_succ (r : Fin 5) (c : Dev nD) (g : Fin 2) : st m (r.val + 1) c g = merge (st m r.val c g) (st m r.val (ptr r c) g) := by
  show merge _ (st m r.val (ptr (Fin.ofNat 5 r.val) c) g) = _
  rw [show Fin.ofNat 5 r.val = r from Fin.ext (Nat.mod_eq_of_lt r.isLt)]

/-- All products of device `c` at the end, and its result. -/
def accEnd (c : Dev nD) : Vec F S2x8x32x128 .f32 :=
  fun x => (st m 5 c (x 0)).a (ValueIdx.ix4 (n0 := 1) (n1 := 8) (n2 := 32) (n3 := 128) 0 (x 1) (x 2) (x 3))
def outv (c : Dev nD) : (cc0_stg3_0 : Ref sig .tc).ty.Contents (Elt F) := outOf (st m 5 c 0).l (st m 5 c 1).l (accEnd m c)

/-! ## The partners -/

/-- Round `r`'s partner by its number. -/
theorem ptr_val (r : Fin 5) (c : Dev nD) : (ptr r c).val = c.val ^^^ (match r with | 0 => 16 | 1 => 4 | 2 => 8 | 3 => 1 | 4 => 2) := by
  revert r c; decide +kernel

/-- The partner's partner is the device itself. -/
theorem ptr_ptr (r : Fin 5) (c : Dev nD) : ptr r (ptr r c) = c := by
  revert r c; decide +kernel

def swap (r : Fin 5) : Dev nD ≃ Dev nD := ⟨ptr r, ptr r, ptr_ptr r, ptr_ptr r⟩

end Cert.PagedAttn

end
-- ==== Proof.Protocol.lean ====
/-
# The protocol

Who pays which semaphore, when, and what it hands over. Each device has one barrier cell, two cells for its page
copies, and for each round, half and kind of data a send cell and a receive cell. Every cell is used for one round.
The barrier cell is paid by the five partners, each handing over the landing slots the device will write to. A send
cell gives back the piece that was sent. A receive cell gives the landing slot holding the partner's state.
-/
module

public import proofs.«01_k».proof.Proof.State

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells -/

/-- Round, half and kind (maxima, sums, products) of a copy between devices. -/
abbrev XI : Type := Fin 5 × Fin 2 × Fin 3
/-- The kernel's own semaphores: the page copies', the sends', the receives'. -/
abbrev OK : Type := Fin 2 ⊕ (XI ⊕ XI)

def osem : OK → SemLoc sig
  | .inl j => .dma (pSem j)
  | .inr (.inl x) => .dma (sSem x.1 x.2.1 x.2.2)
  | .inr (.inr x) => .dma (rSem x.1 x.2.1 x.2.2)

set_option maxRecDepth 100000 in
theorem ownSemFacts : Pipeline.OwnSemFacts cfg0.spec osem := by decide +kernel

theorem osem_inj : Function.Injective osem := ownSemFacts.inj
theorem osem_ne_bar (k : OK) : osem k ≠ .reg barS := by
  rcases k with j | x | x <;> exact fun h => by cases h

abbrev barCell (c : Dev nD) : GSem nD τ sig := ((c : Thread nD τ), .reg barS)
abbrev ocell (c : Dev nD) (k : OK) : GSem nD τ sig := ((c : Thread nD τ), osem k)
abbrev ldCell (c : Dev nD) (j : Fin 2) : GSem nD τ sig := ocell c (.inl j)
abbrev sCell (c : Dev nD) (x : XI) : GSem nD τ sig := ocell c (.inr (.inl x))
abbrev rCell (c : Dev nD) (x : XI) : GSem nD τ sig := ocell c (.inr (.inr x))

/-- The credit of a copy of each kind, and of a page copy. -/
def amtX : Fin 3 → ℕ
  | 0 => (mSrc 0).view.dmaCredit | 1 => (lSrc 0).view.dmaCredit | 2 => (bSrc 0).view.dmaCredit
def amtL : ℕ := (kM : Memref sig .tc .vmem S16x32x16x128 .f32).view.dmaCredit

theorem amtX_pos (j : Fin 3) : 0 < amtX j := by
  fin_cases j <;> exact View.dmaCredit_pos _ (by decide +kernel)
theorem amtL_pos : 0 < amtL := View.dmaCredit_pos _ (by decide +kernel)

def amtO : OK → ℕ
  | .inl _ => amtL | .inr (.inl x) => amtX x.2.2 | .inr (.inr x) => amtX x.2.2
theorem amtO_pos (k : OK) : 0 < amtO k := by
  rcases k with j | x | x
  · exact amtL_pos
  · exact amtX_pos _
  · exact amtX_pos _

/-! ## What the cells hand over -/

variable (m : (ℓ : Loc nD τ sig) → Buf (Elt F) ℓ)

/-- The landing slots of round `r`, half `g` on device `p`. -/
def zone1 (p : Dev nD) (r : Fin 5) (g : Fin 2) : sProp 𝕄 :=
  iprop(slot (F := F) p rmM (rSlot r g) ∗ slot (F := F) p rlM (rSlot r g) ∗ slot (F := F) p raM (rSlotA r g))
def zone (p : Dev nD) (r : Fin 5) : sProp 𝕄 := iprop(zone1 (F := F) p r 0 ∗ zone1 (F := F) p r 1)

/-- What a page copy gives back: the page buffer filled, and the pages it read. -/
def ldPay (c : Dev nD) : Fin 2 → sProp 𝕄
  | 0 => iprop((kM.view.loc (c : Thread nD τ) ↦[kM.view.set]{fullShare} (kv m c)) ∗ ((kSrc c).view.loc (c : Thread nD τ) ↦[(kSrc c).view.set]{fullShare} (m ((c : Thread nD τ).loc main_arg1))))
  | 1 => iprop((vM.view.loc (c : Thread nD τ) ↦[vM.view.set]{fullShare} (vv m c)) ∗ ((vSrc c).view.loc (c : Thread nD τ) ↦[(vSrc c).view.set]{fullShare} (m ((c : Thread nD τ).loc main_arg2))))

/-- What the send cell of copy `j` gives back: the piece sent. -/
def sendPay (c : Dev nD) (r : Fin 5) (g : Fin 2) : Fin 3 → sProp 𝕄
  | 0 => piece (F := F) c mM (rHalf g) (st m r.val c g).m
  | 1 => piece (F := F) c lM (rHalf g) (st m r.val c g).l
  | 2 => piece (F := F) c bM (rAcc g) (roundA (st m r.val c g).a)

/-- What the receive cell of copy `j` gives: the slot holding the partner's data. -/
def recvPay (c : Dev nD) (r : Fin 5) (g : Fin 2) : Fin 3 → sProp 𝕄
  | 0 => piece (F := F) c rmM (rSlot r g) (slotM (st m r.val (ptr r c) g).m)
  | 1 => piece (F := F) c rlM (rSlot r g) (slotM (st m r.val (ptr r c) g).l)
  | 2 => piece (F := F) c raM (rSlotA r g) (slotA (roundA (st m r.val (ptr r c) g).a))

def oPay (c : Dev nD) : OK → sProp 𝕄
  | .inl j => ldPay m c j
  | .inr (.inl x) => sendPay m c x.1 x.2.1 x.2.2
  | .inr (.inr x) => recvPay m c x.1 x.2.1 x.2.2

instance ldPay_storable (c : Dev nD) (j : Fin 2) : BI.Storable (upEmb : UEmb _ 𝕄) (ldPay (F := F) m c j) := by
  fin_cases j <;> (unfold ldPay; infer_instance)
instance sendPay_storable (c : Dev nD) (r : Fin 5) (g : Fin 2) (j : Fin 3) : BI.Storable (upEmb : UEmb _ 𝕄) (sendPay (F := F) m c r g j) := by
  fin_cases j <;> (unfold sendPay; infer_instance)
instance recvPay_storable (c : Dev nD) (r : Fin 5) (g : Fin 2) (j : Fin 3) : BI.Storable (upEmb : UEmb _ 𝕄) (recvPay (F := F) m c r g j) := by
  fin_cases j <;> (unfold recvPay; infer_instance)
instance oPay_storable (c : Dev nD) (k : OK) : BI.Storable (upEmb : UEmb _ 𝕄) (oPay (F := F) m c k) := by
  rcases k with j | x | x <;> (unfold oPay; infer_instance)
instance zone_storable (p : Dev nD) (r : Fin 5) : BI.Storable (upEmb : UEmb _ 𝕄) (zone (F := F) p r) := by unfold zone zone1; infer_instance

/-! ## The schedule -/

/-- Which of the kernel's own semaphores a semaphore is. -/
def kindOf (s : SemLoc sig) : Option OK := Function.partialInv osem s
theorem kindOf_osem (k : OK) : kindOf (osem k) = some k := Function.partialInv_left osem_inj k

/-- The exchange's schedule, all in round 0: a barrier cell has the five duties of its partners, one unit each; an own cell
    the one duty `0` of its copy's credit. -/
def sched : Rounds.Schedule (GSem nD τ sig) (Fin 5) 𝕄 where
  duties g r := if r = 0 ∧ g.1.2 = .tc then (if g.2 = .reg barS then Finset.univ else match kindOf g.2 with | some _ => {0} | none => ∅) else ∅
  unitless _ := False
  amount g _ _ := if g.2 = .reg barS then 1 else match kindOf g.2 with | some k => amtO k | none => 1
  payload g _ d := if g.2 = .reg barS then zone (F := F) (ptr d g.1.1) d else match kindOf g.2 with | some k => oPay m g.1.1 k | none => iprop(emp)
  amount_pos g _ _ _ := by
    split
    · exact Nat.one_pos
    · split
      · exact amtO_pos _
      · exact Nat.one_pos

instance sched_storable (g : GSem nD τ sig) (r : ℕ) (d : Fin 5) : BI.Storable (upEmb : UEmb _ 𝕄) ((sched (F := F) m).payload g r d) := by
  show BI.Storable upEmb (if g.2 = .reg barS then zone (F := F) (ptr d g.1.1) d else match kindOf g.2 with | some k => oPay m g.1.1 k | none => iprop(emp))
  split
  · infer_instance
  · split <;> infer_instance

section Sched
variable (c : Dev nD) (k : OK)

theorem duties_bar : (sched (F := F) m).duties (barCell c) 0 = Finset.univ := by
  dsimp only [sched]; rw [if_pos ⟨rfl, rfl⟩, if_pos rfl]
theorem duties_own : (sched (F := F) m).duties (ocell c k) 0 = {0} := by
  dsimp only [sched]; rw [if_pos ⟨rfl, rfl⟩, if_neg (osem_ne_bar k), kindOf_osem]
theorem duties_later (g : GSem nD τ sig) : ∀ r, 1 ≤ r → (sched (F := F) m).duties g r = ∅ :=
  fun r hr => by dsimp only [sched]; rw [if_neg fun h => by omega]
theorem amount_bar (d : Fin 5) : (sched (F := F) m).amount (barCell c) 0 d = 1 := by dsimp only [sched]; exact if_pos rfl
theorem amount_own (d : Fin 5) : (sched (F := F) m).amount (ocell c k) 0 d = amtO k := by
  dsimp only [sched]; rw [if_neg (osem_ne_bar k), kindOf_osem]
theorem expect_bar : (sched (F := F) m).expect (barCell c) 0 = 5 := by
  unfold Schedule.expect Schedule.amountOf
  rw [duties_bar, Finset.sum_congr rfl fun d _ => amount_bar m c d, Finset.sum_const, Finset.card_univ, Fintype.card_fin, smul_eq_mul]
theorem expect_own : (sched (F := F) m).expect (ocell c k) 0 = amtO k := by
  unfold Schedule.expect Schedule.amountOf; rw [duties_own, Finset.sum_singleton, amount_own]
theorem payload_bar (d : Fin 5) : (sched (F := F) m).payload (barCell c) 0 d = zone (F := F) (ptr d c) d := by
  dsimp only [sched]; rw [if_pos rfl]
theorem payload_own (d : Fin 5) : (sched (F := F) m).payload (ocell c k) 0 d = oPay m c k := by
  dsimp only [sched]; rw [if_neg (osem_ne_bar k), kindOf_osem]

/-- All five duties of a barrier cell together give the five partners' landing slots. -/
theorem rest_bar : bigSep ((sched (F := F) m).duties (barCell c) 0 \ ∅) (fun d => (sched (F := F) m).payload (barCell c) 0 d)
    = iprop(zone (F := F) (ptr 0 c) 0 ∗ zone (F := F) (ptr 1 c) 1 ∗ zone (F := F) (ptr 2 c) 2 ∗ zone (F := F) (ptr 3 c) 3 ∗ zone (F := F) (ptr 4 c) 4) := by
  rw [Finset.sdiff_empty, duties_bar, bigSep_univ_eq_bigSepL [0, 1, 2, 3, 4] (by decide) (by decide), bigSepL_cons_cons, bigSepL_cons_cons, bigSepL_cons_cons,
    bigSepL_cons_cons, bigSepL_singleton, payload_bar, payload_bar, payload_bar, payload_bar, payload_bar]
  rfl
theorem rest_own : bigSep ((sched (F := F) m).duties (ocell c k) 0 \ ∅) (fun d => (sched (F := F) m).payload (ocell c k) 0 d) = oPay m c k := by
  rw [Finset.sdiff_empty, duties_own, bigSep_singleton, payload_own]

end Sched

/-! ## What a device owes, and the levels -/

/-- The order of the exchanges. -/
abbrev order : List (Fin 5 × Fin 2) := [(0, 0), (0, 1), (1, 0), (1, 1), (2, 0), (2, 1), (3, 0), (3, 1), (4, 0), (4, 1)]

/-- The credit device `c` owes its partners' receive cells for the exchanges of the list, the first on top. -/
def oweX (c : Dev nD) : List (Fin 5 × Fin 2) → CellTallies nD τ sig Unit
  | [] => 0
  | (r, g) :: t => oweX c t + tallyAt (rCell (ptr r c) (r, g, 2)) () (amtX 2) + tallyAt (rCell (ptr r c) (r, g, 1)) () (amtX 1)
      + tallyAt (rCell (ptr r c) (r, g, 0)) () (amtX 0)

/-- At launch: all exchanges, and a unit to each partner's barrier. -/
def O₀ (c : Dev nD) : CellTallies nD τ sig Unit :=
  oweX c order + tallyAt (barCell (ptr 4 c)) () 1 + tallyAt (barCell (ptr 3 c)) () 1 + tallyAt (barCell (ptr 2 c)) () 1
    + tallyAt (barCell (ptr 1 c)) () 1 + tallyAt (barCell (ptr 0 c)) () 1

def L (g : GSem nD τ sig) : Finset Unit := if g.1.2 = .tc then {()} else ∅

/-- A receive cell of exchange `(r, g)` lies at `2 + 2 r + g`, a barrier cell at 1, every other at 0. -/
def lvO : OK → ℕ
  | .inl _ => 0 | .inr (.inl _) => 0 | .inr (.inr x) => 2 + 2 * x.1.val + x.2.1.val
def lv (g : GSem nD τ sig) (_ : Unit) : ℕ := if g.2 = .reg barS then 1 else match kindOf g.2 with | some k => lvO k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_own (c : Dev nD) (k : OK) (u : Unit) : lv (ocell c k) u = lvO k := by
  unfold lv; rw [if_neg (osem_ne_bar k)]
  show (match kindOf (osem k) with | some k => lvO k | none => 0) = _
  rw [kindOf_osem]

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem oweX_pos {c : Dev nD} {g : GSem nD τ sig} {u : Unit} : ∀ {l : List (Fin 5 × Fin 2)}, 0 < oweX c l g u →
    ∃ p ∈ l, ∃ j, g = rCell (ptr p.1 c) (p.1, p.2, j)
  | [], h => absurd h (Nat.lt_irrefl 0)
  | (r, g') :: t, h => by
    unfold oweX at h
    rw [Pi.add_apply, Finsupp.add_apply, Pi.add_apply, Finsupp.add_apply, Pi.add_apply, Finsupp.add_apply] at h
    by_cases h0 : 0 < tallyAt (rCell (ptr r c) (r, g', 0)) () (amtX 0) g u
    · exact ⟨(r, g'), List.mem_cons_self, 0, tally_pos h0⟩
    by_cases h1 : 0 < tallyAt (rCell (ptr r c) (r, g', 1)) () (amtX 1) g u
    · exact ⟨(r, g'), List.mem_cons_self, 1, tally_pos h1⟩
    by_cases h2 : 0 < tallyAt (rCell (ptr r c) (r, g', 2)) () (amtX 2) g u
    · exact ⟨(r, g'), List.mem_cons_self, 2, tally_pos h2⟩
    have h3 : 0 < oweX c t g u := by omega
    obtain ⟨p, hp, j, e⟩ := oweX_pos h3
    exact ⟨p, List.mem_cons_of_mem _ hp, j, e⟩

theorem O₀_pos {c : Dev nD} {g : GSem nD τ sig} {u : Unit} (h : 0 < O₀ c g u) :
    (∃ p ∈ order, ∃ j, g = rCell (ptr p.1 c) (p.1, p.2, j)) ∨ ∃ r, g = barCell (ptr r c) := by
  unfold O₀ at h
  rw [Pi.add_apply, Finsupp.add_apply, Pi.add_apply, Finsupp.add_apply, Pi.add_apply, Finsupp.add_apply, Pi.add_apply, Finsupp.add_apply,
    Pi.add_apply, Finsupp.add_apply] at h
  by_cases h0 : 0 < tallyAt (barCell (ptr 0 c)) () 1 g u
  · exact .inr ⟨0, tally_pos h0⟩
  by_cases h1 : 0 < tallyAt (barCell (ptr 1 c)) () 1 g u
  · exact .inr ⟨1, tally_pos h1⟩
  by_cases h2 : 0 < tallyAt (barCell (ptr 2 c)) () 1 g u
  · exact .inr ⟨2, tally_pos h2⟩
  by_cases h3 : 0 < tallyAt (barCell (ptr 3 c)) () 1 g u
  · exact .inr ⟨3, tally_pos h3⟩
  by_cases h4 : 0 < tallyAt (barCell (ptr 4 c)) () 1 g u
  · exact .inr ⟨4, tally_pos h4⟩
  have h5 : 0 < oweX c order g u := by omega
  exact .inl (oweX_pos h5)

/-- A device may wait on a cell below every receive cell it still owes. -/
theorem mayWait_oweX (c : Dev nD) (sm : SemLoc sig) (l : List (Fin 5 × Fin 2)) (n : ℕ) (hn : lv ((c : Thread nD τ), sm) () = n)
    (h : ∀ p ∈ l, n < 2 + 2 * p.1.val + p.2.val) : (levAts L lv : sProp 𝕄) ⊢ MayWait (c : Thread nD τ) sm () (oweX c l) :=
  MayOwe.of_cut (L := L) (lev := lv) n (fun p hp => by rw [Finset.mem_singleton.mp hp, L_tc]; exact Finset.mem_singleton_self _)
    (fun g u hg => by obtain ⟨p, _, j, rfl⟩ := oweX_pos hg; exact Finset.mem_singleton_self _)
    (fun p hp => by rw [Finset.mem_singleton.mp hp, hn])
    (fun g u hg => by
      obtain ⟨p, hp, j, rfl⟩ := oweX_pos hg
      rw [lv_own]
      exact h p hp)

/-- The launch's staging waits, before anything is paid and after everything is. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, _, j, rfl⟩ | ⟨r, rfl⟩ <;> exact Finset.mem_singleton_self _)
      (fun p hp => by rw [Finset.mem_singleton.mp hp, hq])
      (fun g u hg => by
        rcases O₀_pos hg with ⟨p, _, j, rfl⟩ | ⟨r, rfl⟩
        · rw [lv_own]; show 0 < 2 + 2 * p.1.val + p.2.val; omega
        · rw [lv_bar]; exact Nat.one_pos)
  · rw [MayWait_zero]; iintro -; iempintro

end Cert.PagedAttn

end
-- ==== Proof.Exchange.lean ====
/-
# One exchange

What sending one half costs and gives, what waiting for a round gives, and what a merge does to the running state.
-/
module

public import proofs.«01_k».proof.Proof.Protocol

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The shared records -/

instance decOK : DecidableEq OK := inferInstance
instance decCI : DecidableEq (Unit ⊕ OK) := inferInstance
/-- All cells: each device's barrier cell (left) and own cells. -/
abbrev CK : Type := Dev nD × (Unit ⊕ OK)
instance decCK : DecidableEq CK := inferInstance
def csem : Unit ⊕ OK → SemLoc sig
  | .inl _ => .reg barS
  | .inr k => osem k
abbrev kcell (ck : CK) : GSem nD τ sig := ((ck.1 : Thread nD τ), csem ck.2)

/-- Every cell's invariant, and that every cell has reached its round. -/
def records (K : CK → ℕ) : sProp 𝕄 :=
  iprop((bigSep Finset.univ fun ck : CK => cellInv EX (sched m) (K ck) (kcell ck)) ∗ bigSep Finset.univ fun ck : CK => reached EX (kcell ck) 0)

instance records_persistent (K : CK → ℕ) : BI.Persistent (records (F := F) m K) := by unfold records; infer_instance

variable (K : CK → ℕ)

theorem rec_inv (ck : CK) : records (F := F) m K ⊢ cellInv EX (sched m) (K ck) (kcell ck) := by
  unfold records
  iintro ⟨H, -⟩
  iapply (show (bigSep Finset.univ fun ck : CK => (cellInv EX (sched m) (K ck) (kcell ck) : sProp 𝕄)) ⊢ cellInv EX (sched m) (K ck) (kcell ck) from
    bigSep_elim (Finset.mem_univ ck))
  iexact H
theorem rec_reached (ck : CK) : records (F := F) m K ⊢ reached EX (kcell ck) 0 := by
  unfold records
  iintro ⟨-, H⟩
  iapply (show (bigSep Finset.univ fun ck : CK => (reached EX (kcell ck) 0 : sProp 𝕄)) ⊢ reached EX (kcell ck) 0 from bigSep_elim (Finset.mem_univ ck))
  iexact H

/-- What device `c` owes, whatever it has waited for. -/
def owing (c : Dev nD) (O : CellTallies nD τ sig Unit) : sProp 𝕄 := iprop(∃ W, owes (c : Thread nD τ) O W)

/-- The three kinds of data. -/
def tri (Φ : Fin 3 → sProp 𝕄) : sProp 𝕄 := iprop(Φ 0 ∗ Φ 1 ∗ Φ 2)

/-! ## One copy -/

section Copy
variable (c : Dev nD) (x : XI)

/-- Contents moved between two squeezed slices, read back through the target slice. -/
theorem read_squeezed_write {s s₂ sq : Shape} {e : EltTy} {M : Memref sig .tc .vmem s e} {R : Rect s} {M' : Memref sig .tc .vmem s₂ e} {R' : Rect s₂}
    {hu : ∀ a, R.stride a = 1} {hu' : ∀ a, R'.stride a = 1} (hq : R.shape.Squeezes sq) (hq' : R'.shape.Squeezes sq) (hn : R'.shape.numel = R.shape.numel)
    (fs : M.view.ty.Contents (Elt F)) (fd : M'.view.ty.Contents (Elt F)) (y : R'.shape.Idx) :
    (M'.view.slice R').read (Elt F) (((M'.slice R' hu').squeeze sq hq').view.write (Elt F) fd (((M.slice R hu).squeeze sq hq).view.read (Elt F) fs) Finset.univ) y
      = (M.view.slice R).read (Elt F) fs (Shape.reshapeEquiv hn y) := by
  have hr := congrFun (View.read_write_univ (v := ((M'.slice R' hu').squeeze sq hq').view) fd (((M.slice R hu).squeeze sq hq).view.read (Elt F) fs))
    (Shape.reshapeEquiv hq'.numel_eq.symm y)
  have h1 : ∀ f : M'.view.ty.Contents (Elt F), ((M'.slice R' hu').squeeze sq hq').view.read (Elt F) f (Shape.reshapeEquiv hq'.numel_eq.symm y)
      = (M'.view.slice R').read (Elt F) f (Shape.reshapeEquiv hq'.numel_eq (Shape.reshapeEquiv hq'.numel_eq.symm y)) := fun f => rfl
  have h2 : ((M.slice R hu).squeeze sq hq).view.read (Elt F) fs (Shape.reshapeEquiv hq'.numel_eq.symm y)
      = (M.view.slice R).read (Elt F) fs (Shape.reshapeEquiv hq.numel_eq (Shape.reshapeEquiv hq'.numel_eq.symm y)) := rfl
  rw [h1, h2, Shape.reshapeEquiv_reshapeEquiv, Shape.reshapeEquiv_reshapeEquiv, Shape.reshapeEquiv_self] at hr
  exact hr

set_option maxHeartbeats 400000 in
/-- One copy to round `x.1`'s partner: the piece and the partner's slot go, the credit to wait for the send comes. -/
theorem send_piece {s s₂ sq : Shape} {e : EltTy} {M : Memref sig .tc .vmem s e} {R : Rect s} {M' : Memref sig .tc .vmem s₂ e} {R' : Rect s₂}
    {hu : ∀ a, R.stride a = 1} {hu' : ∀ a, R'.stride a = 1} (hq : R.shape.Squeezes sq) (hq' : R'.shape.Squeezes sq)
    (hn : R'.shape.numel = R.shape.numel) (v : R.shape.Idx → Elt F e)
    (hp₁ : sendPay m c x.1 x.2.1 x.2.2 = piece (F := F) c M R v)
    (hp₂ : recvPay m (ptr x.1 c) x.1 x.2.1 x.2.2 = piece (F := F) (ptr x.1 c) M' R' (fun y => v (Shape.reshapeEquiv hn y)))
    (hN : ((M'.slice R' hu').squeeze sq hq').view.dmaCredit = amtX x.2.2)
    {hsc : ((M'.slice R' hu').squeeze sq hq').view.ref.isScScratch = false}
    {hsrc : ((M.slice R hu).squeeze sq hq).view.WordExact} {hdst : ((M'.slice R' hu').squeeze sq hq').view.WordExact}
    {hsem : DmaTarget.Typed .vmem (.dma (rSem x.1 x.2.1 x.2.2)) (.remote (Dev.tc (ptr x.1 c) : Thread nD τ) ((M'.slice R' hu').squeeze sq hq') (.dma (sSem x.1 x.2.1 x.2.2)) hsc)}
    (O : CellTallies nD τ sig Unit) {k : PUnit → BP F} {Q : PUnit → sProp 𝕄} :
    iprop(records m K ∗ piece (F := F) c M R v ∗ slot (F := F) (ptr x.1 c) M' R' ∗ owing c (O + tallyAt (rCell (ptr x.1 c) x) () (amtX x.2.2))
        ∗ dutyTok EX (sCell c x) 0 0 ∗ dutyTok EX (rCell (ptr x.1 c) x) 0 0)
      ⊢ iprop(((cred (tallyAt (sCell c x) () (amtX x.2.2)) ∗ owing c O) -∗ wpB c (k ⟨⟩) Q)
          -∗ wpB c (.op (.enqueueDma ((M.slice R hu).squeeze sq hq) (.remote (Dev.tc (ptr x.1 c) : Thread nD τ) ((M'.slice R' hu').squeeze sq hq') (.dma (sSem x.1 x.2.1 x.2.2)) hsc)
              (.dma (rSem x.1 x.2.1 x.2.2)) hsrc hdst hsem) k) Q) := by
  unfold owing
  iintro ⟨#HR, Hp, Hs, ⟨%W, HO⟩, HtS, HtR⟩ Hk
  ihave #HI1 := (rec_inv m K (c, .inr (.inr (.inl x)))) $$ HR
  ihave #HI2 := (rec_inv m K (ptr x.1 c, .inr (.inr (.inr x)))) $$ HR
  ihave #Hr1 := (rec_reached m K (c, .inr (.inr (.inl x)))) $$ HR
  ihave #Hr2 := (rec_reached m K (ptr x.1 c, .inr (.inr (.inr x)))) $$ HR
  unfold slot piece
  icases Hp with ⟨%fs, %hfs, Hp⟩
  icases Hs with ⟨%v', %fd, -, Hs⟩
  have e1 : ((M.slice R hu).squeeze sq hq).view.set = (M.view.slice R).set := View.set_reshape (v := M.view.slice R) _
  have e2 : ((M'.slice R' hu').squeeze sq hq').view.set = (M'.view.slice R').set := View.set_reshape (v := M'.view.slice R') _
  have hpay₁ : (((M.slice R hu).squeeze sq hq).view.loc (c : Thread nD τ) ↦[((M.slice R hu).squeeze sq hq).view.set]{fullShare} fs : sProp 𝕄)
      ⊢ (sched (F := F) m).payload (sCell c x) 0 0 := by
    rw [payload_own]
    show _ ⊢ sendPay m c x.1 x.2.1 x.2.2
    rw [hp₁, e1]
    unfold piece
    iintro H
    iexists fs
    isplitr; · ipureintro; exact hfs
    iexact H
  have hpay₂ : (((M'.slice R' hu').squeeze sq hq').view.loc (ptr x.1 c : Thread nD τ) ↦[((M'.slice R' hu').squeeze sq hq').view.set]{fullShare}
        (((M'.slice R' hu').squeeze sq hq').view.write (Elt F) fd (((M.slice R hu).squeeze sq hq).view.read (Elt F) fs) Finset.univ) : sProp 𝕄)
      ⊢ (sched (F := F) m).payload (rCell (ptr x.1 c) x) 0 0 := by
    rw [payload_own]
    show _ ⊢ recvPay m (ptr x.1 c) x.1 x.2.1 x.2.2
    rw [hp₂, e2]
    unfold piece
    iintro H
    iexists (((M'.slice R' hu').squeeze sq hq').view.write (Elt F) fd (((M.slice R hu).squeeze sq hq).view.read (Elt F) fs) Finset.univ)
    isplitr
    · ipureintro
      funext y
      rw [← hfs]
      exact read_squeezed_write hq hq' hn fs fd y
    iexact H
  iapply (Rounds.wp_send_pointsTo 𝒱₀ EX (sched m) (c : Thread nD τ) none (κ₁ := K (c, .inr (.inr (.inl x)))) (κ₂ := K (ptr x.1 c, .inr (.inr (.inr x))))
    (c' := (ptr x.1 c : Thread nD τ)) (hsc := hsc) (sS := .dma (sSem x.1 x.2.1 x.2.2)) (sem := .dma (rSem x.1 x.2.1 x.2.2)) (src := (M.slice R hu).squeeze sq hq) (dst := (M'.slice R' hu').squeeze sq hq') (r₁ := 0) (r₂ := 0) (d₁ := 0) (d₂ := 0) (fs := fs) (fd := fd) (q := fullShare)
    (by rw [show (((c : Thread nD τ), SemLoc.dma (sSem x.1 x.2.1 x.2.2)) : GSem nD τ sig) = sCell c x from rfl, duties_own]; exact Finset.mem_singleton_self _)
    (by rw [show (((ptr x.1 c : Thread nD τ), SemLoc.dma (rSem x.1 x.2.1 x.2.2)) : GSem nD τ sig) = rCell (ptr x.1 c) x from rfl, duties_own]; exact Finset.mem_singleton_self _)
    () () (amtX x.2.2) hN (amount_own m c (.inr (.inl x)) 0) (amount_own m (ptr x.1 c) (.inr (.inr x)) 0) O rfl (W := W) hpay₁ hpay₂) $$ [Hp Hs HO HtS HtR]
  · isplitr; · iexact HI1
    isplitr; · iexact HI2
    isplitl [Hp]; · rw [e1]; iexact Hp
    isplitl [Hs]; · rw [e2]; iexact Hs
    isplitl [HO]; · iexact HO
    isplitl [HtS]; · iexact HtS
    isplitr; · iexact Hr1
    isplitl [HtR]; · iexact HtR
    iexact Hr2
  iintro ⟨Hc, HO⟩
  iapply Hk
  isplitl [Hc]; · iexact Hc
  iexists W; iexact HO

/-- One wait on an own cell: the copy's payload comes, and the cell is done with. -/
theorem wait_own (κ : OK) {sem : DmaSem sig} (hs : osem κ = .dma sem) {sp sp' : Space} {s s' : Shape} {e e' : EltTy} {src : Memref sig .tc sp' s' e'}
    {dst : Memref sig .tc sp s e} {hsrc : src.view.WordExact} {hdst : dst.view.WordExact} (hN : dst.view.dmaCredit = amtO κ)
    (O : CellTallies nD τ sig Unit) {k : PUnit → BP F} {Q : PUnit → sProp 𝕄} :
    iprop(records m K ∗ cred (tallyAt (ocell c κ) () (amtO κ)) ∗ owing c O ∗ MayWait (c : Thread nD τ) (osem κ) () O ∗ atPos EX (ocell c κ) 0 ∅ 0)
      ⊢ iprop(((owing c O ∗ oPay m c κ ∗ semVal (ocell c κ) 0) -∗ wpB c (k ⟨⟩) Q) -∗ wpB c (.op (.waitDma2 sem src dst hsrc hdst) k) Q) := by
  unfold owing
  iintro ⟨#HR, Hc, ⟨%W, HO⟩, HM, Hat⟩ Hk
  ihave #HI := (rec_inv m K (c, .inr κ)) $$ HR
  have hcell : ocell c κ = ((c : Thread nD τ), SemLoc.dma sem) := by unfold ocell; rw [hs]
  iapply (Rounds.wp_wait_rest_token 𝒱₀ EX (sched m) (c : Thread nD τ) none (κ := K (c, .inr κ)) (sm := .dma sem)
      (wpE_waitDma2_eq 𝒱₀ (c : Thread nD τ) none Set.univ) (Set.mem_univ _) () (O := O) (W := W) (R := 0) (m := 0) (T := ∅)
      (by rw [Nat.zero_add, ← hcell, expect_own, hN])) $$ [Hc HO HM Hat]
  · rw [← hcell, ← hs, hN]
    isplitr; · iexact HI
    isplitl [Hc]; · iexact Hc
    isplitl [HO]; · iexact HO
    isplitl [HM]; · iexact HM
    iexact Hat
  rw [← hcell, rest_own]
  iintro ⟨HO, Hat, -, Hp⟩
  imod (Rounds.cell_close EX (sched m) (Set.mem_univ (K (c, .inr κ))) (fun h => h) (R := 0 + 1) (duties_later m _)) $$ [Hat] with Hz
  · isplitr; · iexact HI
    iexact Hat
  iapply Hk
  isplitl [HO]; · iexists _; iexact HO
  isplitl [Hp]; · iexact Hp
  iexact Hz

end Copy

/-! ## The three steps -/

section Steps
variable (c : Dev nD) (r : Fin 5) (g : Fin 2)

/-- One half's running state held in its three scratch buffers, the rounding buffer's half besides. -/
def held3 (s : St F) : sProp 𝕄 :=
  iprop(piece (F := F) c mM (rHalf g) s.m ∗ piece (F := F) c lM (rHalf g) s.l ∗ piece (F := F) c aM (rAcc g) s.a)
/-- The tokens of exchange `(r, g)`'s six duties. -/
def toks : sProp 𝕄 :=
  tri fun j => iprop(dutyTok EX (sCell c (r, g, j)) 0 0 ∗ dutyTok EX (rCell (ptr r c) (r, g, j)) 0 0)
/-- The credits to wait for the three sends under way. -/
def flight : sProp 𝕄 := tri fun j => cred (tallyAt (sCell c (r, g, j)) () (amtX j))
/-- What waiting for exchange `(r, g)` takes besides: the positions at its cells and the landings' credits. -/
def waitKit : sProp 𝕄 :=
  tri fun j => iprop(atPos EX (sCell c (r, g, j)) 0 ∅ 0 ∗ atPos EX (rCell c (r, g, j)) 0 ∅ 0 ∗ cred (tallyAt (rCell c (r, g, j)) () (amtX j)))
/-- Exchange `(r, g)`'s six cells back at zero. -/
def spent : sProp 𝕄 := tri fun j => iprop(semVal (sCell c (r, g, j)) 0 ∗ semVal (rCell c (r, g, j)) 0)

/-- Sending a half: the maxima and sums go, the products stay (a rounded copy goes), and the partner's slots. -/
theorem sendStep_spec (l : List (Fin 5 × Fin 2)) {k : BP F} {Q : PUnit → sProp 𝕄} :
    iprop(records m K ∗ held3 (F := F) c g (st m r.val c g) ∗ slot (F := F) c bM (rAcc g) ∗ zone1 (F := F) (ptr r c) r g ∗ toks c r g ∗ owing c (oweX c ((r, g) :: l)))
      ⊢ iprop(((piece (F := F) c aM (rAcc g) (st m r.val c g).a ∗ flight c r g ∗ owing c (oweX c l)) -∗ wpB c k Q) -∗ wpB c (sendStep c r g k) Q) := by
  unfold held3 toks flight zone1 tri sendStep
  rw [show slot (F := F) c bM (rAcc g) = iprop(∃ v, piece (F := F) c bM (rAcc g) v) from rfl]
  rw [show oweX c ((r, g) :: l) = oweX c l + tallyAt (rCell (ptr r c) (r, g, 2)) () (amtX 2) + tallyAt (rCell (ptr r c) (r, g, 1)) () (amtX 1)
      + tallyAt (rCell (ptr r c) (r, g, 0)) () (amtX 0) from rfl]
  iintro ⟨#HR, ⟨Hm, Hl, Ha⟩, ⟨%vb, Hb⟩, ⟨Hzm, Hzl, Hza⟩, ⟨⟨Ht0, Ht0'⟩, ⟨Ht1, Ht1'⟩, ⟨Ht2, Ht2'⟩⟩, HO⟩ Hk
  iapply (load_piece c) $$ Ha; iintro Ha
  iapply (load_piece c) $$ Hb; iintro Hb
  iapply (store_piece c) $$ Hb; iintro Hb
  iapply (send_piece m K c (r, g, 0) (M := mM) (R := rHalf g) (M' := rmM) (R' := rSlot r g) squeezes_S1x32x8_S32x8 _ (show S1x1x32x8.numel = S1x32x8.numel by decide +kernel) (st m r.val c g).m
    rfl (by unfold recvPay; rw [ptr_ptr]; rfl) rfl _) $$ [Hm Hzm HO Ht0 Ht0']
  · isplitr; · iexact HR
    isplitl [Hm]; · iexact Hm
    isplitl [Hzm]; · iexact Hzm
    isplitl [HO]; · iexact HO
    isplitl [Ht0]; · iexact Ht0
    iexact Ht0'
  iintro ⟨Hc0, HO⟩
  iapply (send_piece m K c (r, g, 1) (M := lM) (R := rHalf g) (M' := rlM) (R' := rSlot r g) squeezes_S1x32x8_S32x8 _ (show S1x1x32x8.numel = S1x32x8.numel by decide +kernel) (st m r.val c g).l
    rfl (by unfold recvPay; rw [ptr_ptr]; rfl) rfl _) $$ [Hl Hzl HO Ht1 Ht1']
  · isplitr; · iexact HR
    isplitl [Hl]; · iexact Hl
    isplitl [Hzl]; · iexact Hzl
    isplitl [HO]; · iexact HO
    isplitl [Ht1]; · iexact Ht1
    iexact Ht1'
  iintro ⟨Hc1, HO⟩
  iapply (send_piece m K c (r, g, 2) (M := bM) (R := rAcc g) (M' := raM) (R' := rSlotA r g) _ _ (show S1x1x8x32x128.numel = S1x8x32x128.numel by decide +kernel) (roundA (st m r.val c g).a)
    rfl (by unfold recvPay; rw [ptr_ptr]; rfl) rfl _) $$ [Hb Hza HO Ht2 Ht2']
  · isplitr; · iexact HR
    isplitl [Hb]; · iexact Hb
    isplitl [Hza]; · iexact Hza
    isplitl [HO]; · iexact HO
    isplitl [Ht2]; · iexact Ht2
    iexact Ht2'
  iintro ⟨Hc2, HO⟩
  iapply Hk
  isplitl [Ha]; · iexact Ha
  isplitr [HO]
  · isplitl [Hc0]; · iexact Hc0
    isplitl [Hc1]; · iexact Hc1
    iexact Hc2
  iexact HO

/-- Waiting for an exchange: what was sent comes back, the partner's data has landed, the six cells are done with. -/
theorem waitStep_spec (l : List (Fin 5 × Fin 2)) (hl : ∀ p ∈ l, 2 + 2 * r.val + g.val < 2 + 2 * p.1.val + p.2.val) {k : BP F} {Q : PUnit → sProp 𝕄} :
    iprop(records m K ∗ levAts L lv ∗ flight c r g ∗ waitKit c r g ∗ owing c (oweX c l))
      ⊢ iprop(((tri (sendPay m c r g) ∗ tri (recvPay m c r g) ∗ spent c r g ∗ owing c (oweX c l)) -∗ wpB c k Q) -∗ wpB c (waitStep r g k) Q) := by
  have hS : ∀ j, (levAts L lv : sProp 𝕄) ⊢ MayWait (c : Thread nD τ) (osem (.inr (.inl (r, g, j)))) () (oweX c l) := fun j =>
    mayWait_oweX c _ l 0 (lv_own c (.inr (.inl (r, g, j))) ()) fun p hp => by omega
  have hR : ∀ j, (levAts L lv : sProp 𝕄) ⊢ MayWait (c : Thread nD τ) (osem (.inr (.inr (r, g, j)))) () (oweX c l) := fun j =>
    mayWait_oweX c _ l _ (lv_own c (.inr (.inr (r, g, j))) ()) hl
  unfold flight waitKit spent tri waitStep
  iintro ⟨#HR, #HL, ⟨Hs0, Hs1, Hs2⟩, ⟨⟨Ha0, Hb0, Hr0⟩, ⟨Ha1, Hb1, Hr1⟩, ⟨Ha2, Hb2, Hr2⟩⟩, HO⟩ Hk
  ihave #M0 := (hS 0) $$ HL
  ihave #M1 := (hS 1) $$ HL
  ihave #M2 := (hS 2) $$ HL
  ihave #N0 := (hR 0) $$ HL
  ihave #N1 := (hR 1) $$ HL
  ihave #N2 := (hR 2) $$ HL
  iapply (wait_own m K c (.inr (.inl (r, g, 0))) (src := mDst r g) (dst := mSrc g) rfl rfl (oweX c l)) $$ [Hs0 Ha0 HO]
  · isplitr; · iexact HR
    isplitl [Hs0]; · iexact Hs0
    isplitl [HO]; · iexact HO
    isplitr; · iexact M0
    iexact Ha0
  iintro ⟨HO, Hp0, Hv0⟩
  iapply (wait_own m K c (.inr (.inr (r, g, 0))) (src := mSrc g) (dst := mDst r g) rfl rfl (oweX c l)) $$ [Hr0 Hb0 HO]
  · isplitr; · iexact HR
    isplitl [Hr0]; · iexact Hr0
    isplitl [HO]; · iexact HO
    isplitr; · iexact N0
    iexact Hb0
  iintro ⟨HO, Hq0, Hw0⟩
  iapply (wait_own m K c (.inr (.inl (r, g, 1))) (src := lDst r g) (dst := lSrc g) rfl rfl (oweX c l)) $$ [Hs1 Ha1 HO]
  · isplitr; · iexact HR
    isplitl [Hs1]; · iexact Hs1
    isplitl [HO]; · iexact HO
    isplitr; · iexact M1
    iexact Ha1
  iintro ⟨HO, Hp1, Hv1⟩
  iapply (wait_own m K c (.inr (.inr (r, g, 1))) (src := lSrc g) (dst := lDst r g) rfl rfl (oweX c l)) $$ [Hr1 Hb1 HO]
  · isplitr; · iexact HR
    isplitl [Hr1]; · iexact Hr1
    isplitl [HO]; · iexact HO
    isplitr; · iexact N1
    iexact Hb1
  iintro ⟨HO, Hq1, Hw1⟩
  iapply (wait_own m K c (.inr (.inl (r, g, 2))) (src := bDst r g) (dst := bSrc g) rfl rfl (oweX c l)) $$ [Hs2 Ha2 HO]
  · isplitr; · iexact HR
    isplitl [Hs2]; · iexact Hs2
    isplitl [HO]; · iexact HO
    isplitr; · iexact M2
    iexact Ha2
  iintro ⟨HO, Hp2, Hv2⟩
  iapply (wait_own m K c (.inr (.inr (r, g, 2))) (src := bSrc g) (dst := bDst r g) rfl rfl (oweX c l)) $$ [Hr2 Hb2 HO]
  · isplitr; · iexact HR
    isplitl [Hr2]; · iexact Hr2
    isplitl [HO]; · iexact HO
    isplitr; · iexact N2
    iexact Hb2
  iintro ⟨HO, Hq2, Hw2⟩
  simp only [oPay]
  iapply Hk
  isplitl [Hp0 Hp1 Hp2]
  · isplitl [Hp0]; · iexact Hp0
    isplitl [Hp1]; · iexact Hp1
    iexact Hp2
  isplitl [Hq0 Hq1 Hq2]
  · isplitl [Hq0]; · iexact Hq0
    isplitl [Hq1]; · iexact Hq1
    iexact Hq2
  isplitr [HO]
  · isplitl [Hv0 Hw0]; · isplitl [Hv0]; · iexact Hv0
                         iexact Hw0
    isplitl [Hv1 Hw1]; · isplitl [Hv1]; · iexact Hv1
                         iexact Hw1
    isplitl [Hv2]; · iexact Hv2
    iexact Hw2
  iexact HO

/-- A merge takes round `r`'s state to the next round's, and leaves the landing slots filled. -/
theorem mergeStep_spec {k : BP F} {Q : PUnit → sProp 𝕄} :
    iprop(held3 (F := F) c g (st m r.val c g) ∗ tri (recvPay m c r g))
      ⊢ iprop(((held3 (F := F) c g (st m (r.val + 1) c g) ∗ zone1 (F := F) c r g) -∗ wpB c k Q) -∗ wpB c (mergeStep r g k) Q) := by
  rw [st_succ]
  unfold held3 tri zone1 recvPay slot mergeStep merge
  iintro ⟨⟨Hm, Hl, Ha⟩, ⟨Hrm, Hrl, Hra⟩⟩ Hk
  iapply (load_piece c) $$ Hm; iintro Hm
  iapply (load_piece c) $$ Hl; iintro Hl
  iapply (load_piece c) $$ Ha; iintro Ha
  iapply (load_piece c) $$ Hrm; iintro Hrm
  iapply (load_piece c) $$ Hrl; iintro Hrl
  iapply (load_piece c) $$ Hra; iintro Hra
  iapply (load_piece c) $$ Hm; iintro Hm
  iapply (store_piece c) $$ Hm; iintro Hm
  iapply (load_piece c) $$ Hl; iintro Hl
  iapply (store_piece c) $$ Hl; iintro Hl
  iapply (load_piece c) $$ Ha; iintro Ha
  iapply (store_piece c) $$ Ha; iintro Ha
  iapply Hk
  isplitl [Hm Hl Ha]
  · isplitl [Hm]; · iexact Hm
    isplitl [Hl]; · iexact Hl
    iexact Ha
  isplitl [Hrm]; · iexists _; iexact Hrm
  isplitl [Hrl]; · iexists _; iexact Hrl
  iexists _; iexact Hra

end Steps

end Cert.PagedAttn

end
-- ==== Proof.Heads.lean ====
/-
# The local attention

What one head's step stores, and what the eight heads of a half leave: the half's first running state.
-/
module

public import proofs.«01_k».proof.Proof.Exchange
public import Idealize.ShloMosaic.Lib.Pipeline.BigSepL

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- Loading a rectangle of a buffer held whole. -/
theorem load_whole (c : Dev nD) {s : Shape} {e : EltTy} {cs : CoreSpace} {M : Memref sig .tc cs s e} {r : Rect s} {hl : M.view.LoadsAt r.toLoadRect}
    (f : Buf (Elt F) (M.view.loc (c : Thread nD τ))) {k : (r.shape.Idx → Elt F e) → BP F} {Q : PUnit → sProp 𝕄} :
    (M.view.loc (c : Thread nD τ) ↦[M.view.set]{fullShare} f)
      ⊢ iprop(((M.view.loc (c : Thread nD τ) ↦[M.view.set]{fullShare} f) -∗ wpB c (k ((M.view.slice r).read (Elt F) f)) Q)
          -∗ wpB c (.op (.load M r.toLoadRect hl) k) Q) :=
  wp_load_rect 𝒱₀ (c : Thread nD τ) none Set.univ (m := M) (r := r) (View.set_slice_subset M.view r)

variable (m : (ℓ : Loc nD τ sig) → Buf (Elt F) ℓ) (c : Dev nD)

/-- The pages of keys and values and the queries, all in place. -/
def inputs : sProp 𝕄 :=
  iprop((kM.view.loc (c : Thread nD τ) ↦[kM.view.set]{fullShare} (kv m c)) ∗ (vM.view.loc (c : Thread nD τ) ↦[vM.view.set]{fullShare} (vv m c))
    ∗ (qM.view.loc (c : Thread nD τ) ↦[qM.view.set]{fullShare} (qv m c)))

/-- Where head `8 g + i` stores: at any contents, and at its results. -/
def colsAny (g : Fin 2) (i : Fin 8) : sProp 𝕄 :=
  iprop(slot (F := F) c mM (rCol g i) ∗ slot (F := F) c lM (rCol g i) ∗ slot (F := F) c aM (rAcc1 g i))
def colsDone (g : Fin 2) (i : Fin 8) : sProp 𝕄 :=
  iprop(piece (F := F) c mM (rCol g i) (headM (headK m c (hd g i)) (headQ m c (hd g i)))
    ∗ piece (F := F) c lM (rCol g i) (headL (wv m c) (headK m c (hd g i)) (headQ m c (hd g i)))
    ∗ piece (F := F) c aM (rAcc1 g i) (headA (wv m c) (headK m c (hd g i)) (headV m c (hd g i)) (headQ m c (hd g i))))

/-- One head stores its maxima, sums and products. -/
theorem headStep_spec (g : Fin 2) (i : Fin 8) {k : BP F} {Q : PUnit → sProp 𝕄} :
    iprop(inputs m c ∗ colsAny (F := F) c g i) ⊢ iprop(((inputs m c ∗ colsDone m c g i) -∗ wpB c k Q) -∗ wpB c (headStep (wv m c) g i k) Q) := by
  unfold inputs colsAny colsDone slot headStep
  iintro ⟨⟨Hk, Hv, Hq⟩, ⟨%vm, Hm⟩, ⟨%vl, Hl⟩, ⟨%va, Ha⟩⟩ HK
  iapply (load_whole c (kv m c)) $$ Hk; iintro Hk
  iapply (load_whole c (vv m c)) $$ Hv; iintro Hv
  iapply (load_whole c (qv m c)) $$ Hq; iintro Hq
  iapply (load_piece c) $$ Hm; iintro Hm
  iapply (store_piece c) $$ Hm; iintro Hm
  iapply (load_piece c) $$ Hl; iintro Hl
  iapply (store_piece c) $$ Hl; iintro Hl
  iapply (load_piece c) $$ Ha; iintro Ha
  iapply (store_piece c) $$ Ha; iintro Ha
  iapply HK
  isplitl [Hk Hv Hq]
  · isplitl [Hk]; · iexact Hk
    isplitl [Hv]; · iexact Hv
    iexact Hq
  isplitl [Hm]; · iexact Hm
  isplitl [Hl]; · iexact Hl
  iexact Ha

/-- A list of heads, one after another. -/
theorem headsList_spec (g : Fin 2) {k : BP F} {Q : PUnit → sProp 𝕄} : ∀ l : List (Fin 8),
    iprop(inputs m c ∗ bigSepL l (colsAny (F := F) c g))
      ⊢ iprop(((inputs m c ∗ bigSepL l (colsDone m c g)) -∗ wpB c k Q) -∗ wpB c (l.foldr (headStep (wv m c) g) k) Q)
  | [] => by
      iintro H HK
      iapply HK; iexact H
  | i :: l => by
      rw [bigSepL_cons', bigSepL_cons']
      iintro ⟨HI, Hi, Hl⟩ HK
      iapply (headStep_spec m c g i) $$ [HI Hi]
      · isplitl [HI]; · iexact HI
        iexact Hi
      iintro ⟨HI, Hd⟩
      iapply (headsList_spec g l) $$ [HI Hl]
      · isplitl [HI]; · iexact HI
        iexact Hl
      iintro ⟨HI, Hl⟩
      iapply HK
      isplitl [HI]; · iexact HI
      isplitl [Hd]; · iexact Hd
      iexact Hl

/-- The eight columns stored are the half's first state. -/
theorem colsDone_held3 (g : Fin 2) : (bigSep Finset.univ (colsDone m c g)) ⊢ held3 (F := F) c g (st m 0 c g) := by
  have hm := cols_half c mM g fun i => headM (headK m c (hd g i)) (headQ m c (hd g i))
  have hl := cols_half c lM g fun i => headL (wv m c) (headK m c (hd g i)) (headQ m c (hd g i))
  have ha := accs_half c aM g fun i => headA (wv m c) (headK m c (hd g i)) (headV m c (hd g i)) (headQ m c (hd g i))
  rw [show st m 0 c g = st0 m c g from rfl]
  unfold colsDone held3 st0
  rw [bigSep_sep', bigSep_sep']
  iintro ⟨Hm, Hl, Ha⟩
  isplitl [Hm]; · iapply hm; iexact Hm
  isplitl [Hl]; · iapply hl; iexact Hl
  iapply ha; iexact Ha

/-- The eight heads of a half leave its first state. -/
theorem heads_spec (g : Fin 2) {k : BP F} {Q : PUnit → sProp 𝕄} :
    iprop(inputs m c ∗ bigSep Finset.univ (colsAny (F := F) c g))
      ⊢ iprop(((inputs m c ∗ held3 (F := F) c g (st m 0 c g)) -∗ wpB c k Q) -∗ wpB c (heads (wv m c) g k) Q) := by
  rw [bigSep_univ_eq_bigSepL [0, 1, 2, 3, 4, 5, 6, 7] (by decide) (by decide)]
  iintro ⟨HI, Hc⟩ HK
  iapply (headsList_spec m c g [0, 1, 2, 3, 4, 5, 6, 7]) $$ [HI Hc]
  · isplitl [HI]; · iexact HI
    iexact Hc
  iintro ⟨HI, Hc⟩
  iapply HK
  isplitl [HI]; · iexact HI
  have hd := colsDone_held3 m c g
  rw [bigSep_univ_eq_bigSepL [0, 1, 2, 3, 4, 5, 6, 7] (by decide) (by decide)] at hd
  iapply hd; iexact Hc

end Cert.PagedAttn

end
-- ==== Proof.Turns.lean ====
/-
# The exchanges of the whole body

A turn of the exchange (wait, merge, send on), the last turn, and all of them after the local attention.
-/
module

public import proofs.«01_k».proof.Proof.Heads

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : CK → ℕ) (c : Dev nD)

/-- Half `g` under way in round `r`: its products are kept, the rest is being sent. -/
def under (r : Fin 5) (g : Fin 2) : sProp 𝕄 := iprop(piece (F := F) c aM (rAcc g) (st m r.val c g).a ∗ flight c r g)
/-- What sending in exchange `(r, g)` takes besides the state. -/
def sendKit (r : Fin 5) (g : Fin 2) : sProp 𝕄 := iprop(zone1 (F := F) (ptr r c) r g ∗ toks c r g)
/-- All of an exchange's takings. -/
def kit (p : Fin 5 × Fin 2) : sProp 𝕄 := iprop(sendKit (F := F) c p.1 p.2 ∗ waitKit c p.1 p.2)
/-- An exchange over: its cells at zero, the device's own landing slots back. -/
def over (p : Fin 5 × Fin 2) : sProp 𝕄 := iprop(spent c p.1 p.2 ∗ zone1 (F := F) c p.1 p.2)

/-- Taking in round `r` without sending on: the next state, all of it. -/
theorem take_spec (r : Fin 5) (g : Fin 2) (l : List (Fin 5 × Fin 2)) (hl : ∀ p ∈ l, 2 + 2 * r.val + g.val < 2 + 2 * p.1.val + p.2.val)
    {k : BP F} {Q : PUnit → sProp 𝕄} :
    iprop(records m K ∗ levAts L lv ∗ under m c r g ∗ waitKit c r g ∗ owing c (oweX c l))
      ⊢ iprop(((held3 (F := F) c g (st m (r.val + 1) c g) ∗ slot (F := F) c bM (rAcc g) ∗ over (F := F) c (r, g) ∗ owing c (oweX c l)) -∗ wpB c k Q)
          -∗ wpB c (waitStep r g (mergeStep r g k)) Q) := by
  unfold under
  iintro ⟨#HR, #HL, ⟨Ha, Hf⟩, Hw, HO⟩ Hk
  iapply (waitStep_spec m K c r g l hl) $$ [Hf Hw HO]
  · isplitr; · iexact HR
    isplitr; · iexact HL
    isplitl [Hf]; · iexact Hf
    isplitl [Hw]; · iexact Hw
    iexact HO
  rw [show tri (sendPay m c r g) = iprop(piece (F := F) c mM (rHalf g) (st m r.val c g).m ∗ piece (F := F) c lM (rHalf g) (st m r.val c g).l
    ∗ piece (F := F) c bM (rAcc g) (roundA (st m r.val c g).a)) from rfl]
  iintro ⟨⟨Hm, Hl, Hb⟩, Hp, Hs, HO⟩
  iapply (mergeStep_spec m c r g) $$ [Hm Hl Ha Hp]
  · isplitr [Hp]
    · unfold held3
      isplitl [Hm]; · iexact Hm
      isplitl [Hl]; · iexact Hl
      iexact Ha
    iexact Hp
  iintro ⟨H3, Hz⟩
  iapply Hk
  isplitl [H3]; · iexact H3
  isplitl [Hb]; · unfold slot; iexists _; iexact Hb
  isplitr [HO]
  · unfold over
    isplitl [Hs]; · iexact Hs
    iexact Hz
  iexact HO

/-- A turn: round `r` is taken in and the merged state is sent on in round `r'`. -/
theorem turn_spec (r r' : Fin 5) (h : r'.val = r.val + 1) (g : Fin 2) (l : List (Fin 5 × Fin 2))
    (hl : ∀ p ∈ (r', g) :: l, 2 + 2 * r.val + g.val < 2 + 2 * p.1.val + p.2.val) {k : BP F} {Q : PUnit → sProp 𝕄} :
    iprop(records m K ∗ levAts L lv ∗ under m c r g ∗ waitKit c r g ∗ sendKit (F := F) c r' g ∗ owing c (oweX c ((r', g) :: l)))
      ⊢ iprop(((under m c r' g ∗ over (F := F) c (r, g) ∗ owing c (oweX c l)) -∗ wpB c k Q) -∗ wpB c (turn c r r' g k) Q) := by
  unfold turn
  iintro ⟨#HR, #HL, Hu, Hw, Hsk, HO⟩ Hk
  iapply (take_spec m K c r g _ hl) $$ [Hu Hw HO]
  · isplitr; · iexact HR
    isplitr; · iexact HL
    isplitl [Hu]; · iexact Hu
    isplitl [Hw]; · iexact Hw
    iexact HO
  rw [← h]
  unfold sendKit
  iintro ⟨H3, Hb, Ho, HO⟩
  icases Hsk with ⟨Hz, Ht⟩
  iapply (sendStep_spec m K c r' g l) $$ [H3 Hb Hz Ht HO]
  · isplitr; · iexact HR
    isplitl [H3]; · iexact H3
    isplitl [Hb]; · iexact Hb
    isplitl [Hz]; · iexact Hz
    isplitl [Ht]; · iexact Ht
    iexact HO
  iintro ⟨Ha, Hf, HO⟩
  iapply Hk
  isplitl [Ha Hf]
  · unfold under
    isplitl [Ha]; · iexact Ha
    iexact Hf
  isplitl [Ho]; · iexact Ho
  iexact HO

/-- The local attention of a half and its first send. -/
theorem first_spec (g : Fin 2) (l : List (Fin 5 × Fin 2)) {k : BP F} {Q : PUnit → sProp 𝕄} :
    iprop(records m K ∗ inputs m c ∗ bigSep Finset.univ (colsAny (F := F) c g) ∗ slot (F := F) c bM (rAcc g) ∗ sendKit (F := F) c 0 g ∗ owing c (oweX c ((0, g) :: l)))
      ⊢ iprop(((inputs m c ∗ under m c 0 g ∗ owing c (oweX c l)) -∗ wpB c k Q) -∗ wpB c (heads (wv m c) g (sendStep c 0 g k)) Q) := by
  unfold sendKit under
  iintro ⟨#HR, HI, Hc, Hb, ⟨Hz, Ht⟩, HO⟩ Hk
  iapply (heads_spec m c g) $$ [HI Hc]
  · isplitl [HI]; · iexact HI
    iexact Hc
  iintro ⟨HI, H3⟩
  iapply (sendStep_spec m K c 0 g l) $$ [H3 Hb Hz Ht HO]
  · isplitr; · iexact HR
    isplitl [H3]; · iexact H3
    isplitl [Hb]; · iexact Hb
    isplitl [Hz]; · iexact Hz
    isplitl [Ht]; · iexact Ht
    iexact HO
  iintro ⟨Ha, Hf, HO⟩
  iapply Hk
  isplitl [HI]; · iexact HI
  isplitl [Ha Hf]
  · isplitl [Ha]; · iexact Ha
    iexact Hf
  iexact HO

/-- Round `r` for both halves, each sent on in round `r'`. -/
def bothTurns (r r' : Fin 5) (k : BP F) : BP F := turn c r r' 0 (turn c r r' 1 k)

theorem bothTurns_spec (r r' : Fin 5) (h : r'.val = r.val + 1) (l : List (Fin 5 × Fin 2)) (hl : ∀ p ∈ l, r'.val < p.1.val) {k : BP F} {Q : PUnit → sProp 𝕄} :
    iprop(records m K ∗ levAts L lv ∗ (under m c r 0 ∗ under m c r 1) ∗ (waitKit c r 0 ∗ waitKit c r 1) ∗ (sendKit (F := F) c r' 0 ∗ sendKit (F := F) c r' 1)
        ∗ owing c (oweX c ((r', 0) :: (r', 1) :: l)))
      ⊢ iprop((((under m c r' 0 ∗ under m c r' 1) ∗ (over (F := F) c (r, 0) ∗ over (F := F) c (r, 1)) ∗ owing c (oweX c l)) -∗ wpB c k Q) -∗ wpB c (bothTurns c r r' k) Q) := by
  unfold bothTurns
  iintro ⟨#HR, #HL, ⟨Hu0, Hu1⟩, ⟨Hw0, Hw1⟩, ⟨Hs0, Hs1⟩, HO⟩ Hk
  iapply (turn_spec m K c r r' h 0 ((r', 1) :: l) (fun p hp => by
    rcases List.mem_cons.mp hp with rfl | hp
    · show 2 + 2 * r.val + 0 < 2 + 2 * r'.val + 0; omega
    rcases List.mem_cons.mp hp with rfl | hp
    · show 2 + 2 * r.val + 0 < 2 + 2 * r'.val + 1; omega
    · have := hl p hp
      show 2 + 2 * r.val + 0 < _; omega)) $$ [Hu0 Hw0 Hs0 HO]
  · isplitr; · iexact HR
    isplitr; · iexact HL
    isplitl [Hu0]; · iexact Hu0
    isplitl [Hw0]; · iexact Hw0
    isplitl [Hs0]; · iexact Hs0
    iexact HO
  iintro ⟨Hu0, Ho0, HO⟩
  iapply (turn_spec m K c r r' h 1 l (fun p hp => by
    rcases List.mem_cons.mp hp with rfl | hp
    · show 2 + 2 * r.val + 1 < 2 + 2 * r'.val + 1; omega
    · have := hl p hp
      show 2 + 2 * r.val + 1 < _; omega)) $$ [Hu1 Hw1 Hs1 HO]
  · isplitr; · iexact HR
    isplitr; · iexact HL
    isplitl [Hu1]; · iexact Hu1
    isplitl [Hw1]; · iexact Hw1
    isplitl [Hs1]; · iexact Hs1
    iexact HO
  iintro ⟨Hu1, Ho1, HO⟩
  iapply Hk
  isplitl [Hu0 Hu1]
  · isplitl [Hu0]; · iexact Hu0
    iexact Hu1
  isplitr [HO]
  · isplitl [Ho0]; · iexact Ho0
    iexact Ho1
  iexact HO

/-- Everything between the start and the end: from the staged inputs to both halves' final states. -/
theorem middle_spec {k : BP F} {Q : PUnit → sProp 𝕄} :
    iprop(records m K ∗ levAts L lv ∗ inputs m c ∗ (bigSep Finset.univ (colsAny (F := F) c 0) ∗ bigSep Finset.univ (colsAny (F := F) c 1))
        ∗ (slot (F := F) c bM (rAcc 0) ∗ slot (F := F) c bM (rAcc 1)) ∗ bigSepL order (kit (F := F) c) ∗ owing c (oweX c order))
      ⊢ iprop(((inputs m c ∗ (held3 (F := F) c 0 (st m 5 c 0) ∗ held3 (F := F) c 1 (st m 5 c 1)) ∗ (slot (F := F) c bM (rAcc 0) ∗ slot (F := F) c bM (rAcc 1))
          ∗ bigSepL order (over (F := F) c) ∗ owing c 0) -∗ wpB c k Q)
        -∗ wpB c (heads (wv m c) 0 <| sendStep c 0 0 <| heads (wv m c) 1 <| sendStep c 0 1 <| bothTurns c 0 1 <| bothTurns c 1 2 <| bothTurns c 2 3 <| bothTurns c 3 4 <|
            waitStep 4 0 <| mergeStep 4 0 <| waitStep 4 1 <| mergeStep 4 1 k) Q) := by
  unfold kit order
  simp only [bigSepL_cons', bigSepL_nil]
  iintro ⟨#HR, #HL, HI, ⟨Hc0, Hc1⟩, ⟨Hb0, Hb1⟩, ⟨⟨s00, w00⟩, ⟨s01, w01⟩, ⟨s10, w10⟩, ⟨s11, w11⟩, ⟨s20, w20⟩, ⟨s21, w21⟩, ⟨s30, w30⟩, ⟨s31, w31⟩, ⟨s40, w40⟩, ⟨s41, w41⟩, -⟩, HO⟩ Hk
  iapply (first_spec m K c 0 _) $$ [HI Hc0 Hb0 s00 HO]
  · isplitr; · iexact HR
    isplitl [HI]; · iexact HI
    isplitl [Hc0]; · iexact Hc0
    isplitl [Hb0]; · iexact Hb0
    isplitl [s00]; · iexact s00
    iexact HO
  iintro ⟨HI, U0, HO⟩
  iapply (first_spec m K c 1 _) $$ [HI Hc1 Hb1 s01 HO]
  · isplitr; · iexact HR
    isplitl [HI]; · iexact HI
    isplitl [Hc1]; · iexact Hc1
    isplitl [Hb1]; · iexact Hb1
    isplitl [s01]; · iexact s01
    iexact HO
  iintro ⟨HI, U1, HO⟩
  iapply (bothTurns_spec m K c 0 1 rfl [(2, 0), (2, 1), (3, 0), (3, 1), (4, 0), (4, 1)] (by decide)) $$ [U0 U1 w00 w01 s10 s11 HO]
  · isplitr; · iexact HR
    isplitr; · iexact HL
    isplitl [U0 U1]
    · isplitl [U0]; · iexact U0
      iexact U1
    isplitl [w00 w01]
    · isplitl [w00]; · iexact w00
      iexact w01
    isplitl [s10 s11]
    · isplitl [s10]; · iexact s10
      iexact s11
    iexact HO
  iintro ⟨⟨U0, U1⟩, ⟨o00, o01⟩, HO⟩
  iapply (bothTurns_spec m K c 1 2 rfl [(3, 0), (3, 1), (4, 0), (4, 1)] (by decide)) $$ [U0 U1 w10 w11 s20 s21 HO]
  · isplitr; · iexact HR
    isplitr; · iexact HL
    isplitl [U0 U1]
    · isplitl [U0]; · iexact U0
      iexact U1
    isplitl [w10 w11]
    · isplitl [w10]; · iexact w10
      iexact w11
    isplitl [s20 s21]
    · isplitl [s20]; · iexact s20
      iexact s21
    iexact HO
  iintro ⟨⟨U0, U1⟩, ⟨o10, o11⟩, HO⟩
  iapply (bothTurns_spec m K c 2 3 rfl [(4, 0), (4, 1)] (by decide)) $$ [U0 U1 w20 w21 s30 s31 HO]
  · isplitr; · iexact HR
    isplitr; · iexact HL
    isplitl [U0 U1]
    · isplitl [U0]; · iexact U0
      iexact U1
    isplitl [w20 w21]
    · isplitl [w20]; · iexact w20
      iexact w21
    isplitl [s30 s31]
    · isplitl [s30]; · iexact s30
      iexact s31
    iexact HO
  iintro ⟨⟨U0, U1⟩, ⟨o20, o21⟩, HO⟩
  iapply (bothTurns_spec m K c 3 4 rfl [] (by decide)) $$ [U0 U1 w30 w31 s40 s41 HO]
  · isplitr; · iexact HR
    isplitr; · iexact HL
    isplitl [U0 U1]
    · isplitl [U0]; · iexact U0
      iexact U1
    isplitl [w30 w31]
    · isplitl [w30]; · iexact w30
      iexact w31
    isplitl [s40 s41]
    · isplitl [s40]; · iexact s40
      iexact s41
    iexact HO
  iintro ⟨⟨U0, U1⟩, ⟨o30, o31⟩, HO⟩
  iapply (take_spec m K c 4 0 [] (fun p hp => absurd hp List.not_mem_nil)) $$ [U0 w40 HO]
  · isplitr; · iexact HR
    isplitr; · iexact HL
    isplitl [U0]; · iexact U0
    isplitl [w40]; · iexact w40
    iexact HO
  iintro ⟨H0, Hb0, o40, HO⟩
  iapply (take_spec m K c 4 1 [] (fun p hp => absurd hp List.not_mem_nil)) $$ [U1 w41 HO]
  · isplitr; · iexact HR
    isplitr; · iexact HL
    isplitl [U1]; · iexact U1
    isplitl [w41]; · iexact w41
    iexact HO
  iintro ⟨H1, Hb1, o41, HO⟩
  iapply Hk
  isplitl [HI]; · iexact HI
  isplitl [H0 H1]
  · isplitl [H0]; · iexact H0
    iexact H1
  isplitl [Hb0 Hb1]
  · isplitl [Hb0]; · iexact Hb0
    iexact Hb1
  isplitr [HO]
  · isplitl [o00]; · iexact o00
    isplitl [o01]; · iexact o01
    isplitl [o10]; · iexact o10
    isplitl [o11]; · iexact o11
    isplitl [o20]; · iexact o20
    isplitl [o21]; · iexact o21
    isplitl [o30]; · iexact o30
    isplitl [o31]; · iexact o31
    isplitl [o40]; · iexact o40
    isplitl [o41]; · iexact o41
    iempintro
  iexact HO

end Cert.PagedAttn

end
-- ==== Proof.Ends.lean ====
/-
# The start and the end of the body

The page copies and the handshake with the five partners; the division and the store of the result.
-/
module

public import proofs.«01_k».proof.Proof.Turns

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : CK → ℕ) (c : Dev nD)

/-- All of a memref at contents `f`. -/
abbrev atM {sp : Space} {s : Shape} {e : EltTy} (M : Memref sig .tc sp s e) (f : Buf (Elt F) (M.view.loc (c : Thread nD τ))) : sProp 𝕄 :=
  M.view.loc (c : Thread nD τ) ↦[M.view.set]{fullShare} f

/-! ## The start -/

/-- A page copy begins: the destination and the pages go, the credit to wait for it comes. -/
theorem copy_own (j : Fin 2) {s : Shape} {e : EltTy} {src : Memref sig .tc .hbm s e} {dst : Memref sig .tc .vmem s e}
    (fs : Buf (Elt F) (src.view.loc (c : Thread nD τ))) (fd : Buf (Elt F) (dst.view.loc (c : Thread nD τ))) (hN : dst.view.dmaCredit = amtL)
    (hpay : iprop(atM (F := F) c dst (dst.view.write (Elt F) fd (src.view.read (Elt F) fs) Finset.univ) ∗ atM (F := F) c src fs) ⊢ ldPay m c j)
    {hsrc : src.view.WordExact} {hdst : dst.view.WordExact} {hsem : DmaTarget.Typed .hbm (.dma (pSem j)) (.here (nD := nD) (p := (Proc.tc : Proc τ)) dst)}
    {k : PUnit → BP F} {Q : PUnit → sProp 𝕄} :
    iprop(records m K ∗ atM (F := F) c src fs ∗ atM (F := F) c dst fd ∗ dutyTok EX (ldCell c j) 0 0)
      ⊢ iprop((cred (tallyAt (ldCell c j) () amtL) -∗ wpB c (k ⟨⟩) Q) -∗ wpB c (.op (.enqueueDma src (.here dst) (.dma (pSem j)) hsrc hdst hsem) k) Q) := by
  iintro ⟨#HR, Hs, Hd, Ht⟩ Hk
  ihave #HI := (rec_inv m K (c, .inr (.inl j))) $$ HR
  ihave #Hr := (rec_reached m K (c, .inr (.inl j))) $$ HR
  iapply (Rounds.wp_copy_pointsTo 𝒱₀ EX (sched m) (c : Thread nD τ) none (src := src) (dst := dst) (sem := .dma (pSem j)) (κ := K (c, .inr (.inl j)))
    (r := 0) (d := 0) (fs := fs) (fd := fd) (q := fullShare)
    (by rw [show (((c : Thread nD τ), SemLoc.dma (pSem j)) : GSem nD τ sig) = ldCell c j from rfl, duties_own]; exact Finset.mem_singleton_self _)
    () amtL hN (amount_own m c (.inl j) 0) (by
      rw [show (((c : Thread nD τ), SemLoc.dma (pSem j)) : GSem nD τ sig) = ldCell c j from rfl, payload_own]
      exact hpay)) $$ [Hs Hd Ht]
  · isplitr; · iexact HI
    isplitl [Hs]; · iexact Hs
    isplitl [Hd]; · iexact Hd
    isplitl [Ht]; · iexact Ht
    iexact Hr
  iexact Hk

/-- One signal of the handshake: the device's own landing slots of round `r` go to round `r`'s partner. -/
theorem signal_zone (r : Fin 5) (O : CellTallies nD τ sig Unit) {k : PUnit → BP F} {Q : PUnit → sProp 𝕄} :
    iprop(records m K ∗ owing c (O + tallyAt (barCell (ptr r c)) () 1) ∗ dutyTok EX (barCell (ptr r c)) 0 r ∗ zone (F := F) c r)
      ⊢ iprop((owing c O -∗ wpB c (k ⟨⟩) Q) -∗ wpB c (.op (.semSignal (ptr r c, .tc) barS (1#32 : BitVec 32).toInt) k) Q) := by
  rw [show (1#32 : BitVec 32).toInt = ((1 : ℕ) : ℤ) from rfl]
  unfold owing
  iintro ⟨#HR, ⟨%W, HO⟩, Ht, Hz⟩ Hk
  ihave #HI := (rec_inv m K (ptr r c, .inl ())) $$ HR
  ihave #Hr := (rec_reached m K (ptr r c, .inl ())) $$ HR
  iapply (Rounds.wp_signal 𝒱₀ EX (sched m) (c : Thread nD τ) none (dst := (ptr r c : Thread nD τ)) (κ := K (ptr r c, .inl ())) (d := r) (k' := 1)
      (by rw [duties_bar]; exact Finset.mem_univ _) (amount_bar m (ptr r c) r) () O rfl) $$ [HO Ht Hz]
  · isplitr; · iexact HI
    isplitl [HO]; · iexact HO
    isplitl [Ht]; · iexact Ht
    isplitl [Hz]
    · rw [payload_bar, ptr_ptr]; iexact Hz
    iexact Hr
  iintro HO
  iapply Hk
  iexists W; iexact HO

/-- The wait of the handshake: the five partners' landing slots come, the barrier cell is done with. -/
theorem wait_bar {k : PUnit → BP F} {Q : PUnit → sProp 𝕄} :
    iprop(records m K ∗ levAts L lv ∗ cred (tallyAt (barCell c) () 5) ∗ owing c (oweX c order) ∗ atPos EX (barCell c) 0 ∅ 0)
      ⊢ iprop(((owing c (oweX c order) ∗ (zone (F := F) (ptr 0 c) 0 ∗ zone (F := F) (ptr 1 c) 1 ∗ zone (F := F) (ptr 2 c) 2 ∗ zone (F := F) (ptr 3 c) 3 ∗ zone (F := F) (ptr 4 c) 4)
          ∗ semVal (barCell c) 0) -∗ wpB c (k ⟨⟩) Q) -∗ wpB c (.op (.semWait barS (5#32 : BitVec 32).toInt) k) Q) := by
  rw [show (5#32 : BitVec 32).toInt = ((5 : ℕ) : ℤ) from rfl]
  have hM := mayWait_oweX (F := F) c (.reg barS) order 1 (lv_bar c ()) (by decide)
  unfold owing
  iintro ⟨#HR, #HL, Hc, ⟨%W, HO⟩, Hat⟩ Hk
  ihave #HI := (rec_inv m K (c, .inl ())) $$ HR
  ihave #HM := hM $$ HL
  iapply (Rounds.wp_wait_rest_token 𝒱₀ EX (sched m) (c : Thread nD τ) none (κ := K (c, .inl ())) (k' := 5)
      (wpE_semWait_eq 𝒱₀ (c : Thread nD τ) none Set.univ) (Set.mem_univ _) () (O := oweX c order) (W := W) (R := 0) (m := 0) (T := ∅)
      (by rw [expect_bar])) $$ [Hc HO Hat]
  · isplitr; · iexact HI
    isplitl [Hc]; · iexact Hc
    isplitl [HO]; · iexact HO
    isplitr; · iexact HM
    iexact Hat
  iintro ⟨HO, Hat, -, Hp⟩
  ihave Hp := (Entails.of_eq (rest_bar m c)) $$ Hp
  imod (Rounds.cell_close EX (sched m) (Set.mem_univ (K (c, .inl ()))) (fun h => h) (R := 0 + 1) (duties_later m _)) $$ [Hat] with Hz
  · isplitr; · iexact HI
    iexact Hat
  iapply Hk
  isplitl [HO]; · iexists _; iexact HO
  isplitl [Hp]; · iexact Hp
  iexact Hz

/-- Writing all of a whole buffer leaves what was written. -/
theorem write_whole (b : Ref sig .tc) (f w : b.ty.Contents (Elt F)) : (Memref.whole b).view.write (Elt F) f w Finset.univ = w :=
  View.read_write_univ (v := (Memref.whole b).view) f w

/-- The device's five zones of landing slots; its partners'. -/
def zones : sProp 𝕄 := iprop(zone (F := F) c 0 ∗ zone (F := F) c 1 ∗ zone (F := F) c 2 ∗ zone (F := F) c 3 ∗ zone (F := F) c 4)
def zonesP : sProp 𝕄 := iprop(zone (F := F) (ptr 0 c) 0 ∗ zone (F := F) (ptr 1 c) 1 ∗ zone (F := F) (ptr 2 c) 2 ∗ zone (F := F) (ptr 3 c) 3 ∗ zone (F := F) (ptr 4 c) 4)
/-- The tokens of the five signals; the two page copies' tokens. -/
def barToks : sProp 𝕄 :=
  iprop(dutyTok EX (barCell (ptr 0 c)) 0 0 ∗ dutyTok EX (barCell (ptr 1 c)) 0 1 ∗ dutyTok EX (barCell (ptr 2 c)) 0 2 ∗ dutyTok EX (barCell (ptr 3 c)) 0 3
    ∗ dutyTok EX (barCell (ptr 4 c)) 0 4)
def ldToks : sProp 𝕄 := iprop(dutyTok EX (ldCell c 0) 0 0 ∗ dutyTok EX (ldCell c 1) 0 0)
def ldPos : sProp 𝕄 := iprop(atPos EX (ldCell c 0) 0 ∅ 0 ∗ atPos EX (ldCell c 1) 0 ∅ 0)
/-- The cells the start is done with. -/
def startSems : sProp 𝕄 := iprop(semVal (barCell c) 0 ∗ semVal (ldCell c 0) 0 ∗ semVal (ldCell c 1) 0)
/-- The pages of keys and values in the main memory; the lengths and the page table. -/
def pages : sProp 𝕄 := iprop(atM (F := F) c (kSrc c) (m ((c : Thread nD τ).loc main_arg1)) ∗ atM (F := F) c (vSrc c) (m ((c : Thread nD τ).loc main_arg2)))
def tables : sProp 𝕄 := iprop(atM (F := F) c lnM (lnv m c) ∗ atM (F := F) c btM (btv m c))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Reading the device number goes on with it. -/
theorem wp_dev {k : Dev nD → BP F} {Q : PUnit → sProp 𝕄} : wpB c (.op .deviceId k) Q = wpB c (k c) Q := wp_deviceId 𝒱₀ (c : Thread nD τ) none Set.univ

/-- The start: the pages are copied in, the partners' landing slots come for the device's own, the page weights are known. -/
theorem startStep_spec {k : Dev nD → FVec F S32x512 .f32 → BP F} {Q : PUnit → sProp 𝕄} :
    iprop(records m K ∗ levAts L lv ∗ owing c (O₀ c) ∗ (held (F := F) c kM ∗ held (F := F) c vM) ∗ pages m c ∗ tables m c ∗ zones (F := F) c
        ∗ (barToks c ∗ ldToks c) ∗ (cred (tallyAt (barCell c) () 5) ∗ atPos EX (barCell c) 0 ∅ 0 ∗ ldPos c))
      ⊢ iprop(((owing c (oweX c order) ∗ (atM (F := F) c kM (kv m c) ∗ atM (F := F) c vM (vv m c)) ∗ pages m c ∗ tables m c ∗ zonesP (F := F) c ∗ startSems c)
          -∗ wpB c (k c (wv m c)) Q) -∗ wpB c (startStep k) Q) := by
  unfold held pages tables zones barToks ldToks ldPos startSems startStep
  rw [wp_dev]
  iintro ⟨#HR, #HL, HO, ⟨⟨%f0, Hk⟩, ⟨%f1, Hv⟩⟩, ⟨Hks, Hvs⟩, ⟨Hln, Hbt⟩, ⟨Z0, Z1, Z2, Z3, Z4⟩, ⟨⟨T0, T1, T2, T3, T4⟩, ⟨D0, D1⟩⟩, Hcb, Hab, A0, A1⟩ HK
  iapply (copy_own m K c 0 (src := kSrc c) (dst := kM) _ f0 rfl (by rw [write_whole]; unfold ldPay kv; exact Entails.refl _)) $$ [Hks Hk D0]
  · isplitr; · iexact HR
    isplitl [Hks]; · iexact Hks
    isplitl [Hk]; · iexact Hk
    iexact D0
  iintro C0
  iapply (copy_own m K c 1 (src := vSrc c) (dst := vM) _ f1 rfl (by rw [write_whole]; unfold ldPay vv; exact Entails.refl _)) $$ [Hvs Hv D1]
  · isplitr; · iexact HR
    isplitl [Hvs]; · iexact Hvs
    isplitl [Hv]; · iexact Hv
    iexact D1
  iintro C1
  unfold O₀
  iapply (signal_zone m K c 0 _) $$ [HO T0 Z0]
  · isplitr; · iexact HR
    isplitl [HO]; · iexact HO
    isplitl [T0]; · iexact T0
    iexact Z0
  iintro HO
  iapply (signal_zone m K c 1 _) $$ [HO T1 Z1]
  · isplitr; · iexact HR
    isplitl [HO]; · iexact HO
    isplitl [T1]; · iexact T1
    iexact Z1
  iintro HO
  iapply (signal_zone m K c 2 _) $$ [HO T2 Z2]
  · isplitr; · iexact HR
    isplitl [HO]; · iexact HO
    isplitl [T2]; · iexact T2
    iexact Z2
  iintro HO
  iapply (signal_zone m K c 3 _) $$ [HO T3 Z3]
  · isplitr; · iexact HR
    isplitl [HO]; · iexact HO
    isplitl [T3]; · iexact T3
    iexact Z3
  iintro HO
  iapply (signal_zone m K c 4 _) $$ [HO T4 Z4]
  · isplitr; · iexact HR
    isplitl [HO]; · iexact HO
    isplitl [T4]; · iexact T4
    iexact Z4
  iintro HO
  iapply (wait_bar m K c) $$ [HO Hcb Hab]
  · isplitr; · iexact HR
    isplitr; · iexact HL
    isplitl [Hcb]; · iexact Hcb
    isplitl [HO]; · iexact HO
    iexact Hab
  iintro ⟨HO, HZ, Sb⟩
  iapply (load_whole c (lnv m c)) $$ Hln; iintro Hln
  iapply (load_whole c (btv m c)) $$ Hbt; iintro Hbt
  have hM : ∀ j, (levAts L lv : sProp 𝕄) ⊢ MayWait (c : Thread nD τ) (osem (.inl j)) () (oweX c order) := fun j =>
    mayWait_oweX c _ order 0 (lv_own c (.inl j) ()) (by decide)
  ihave #M0 := (hM 0) $$ HL
  ihave #M1 := (hM 1) $$ HL
  iapply (wait_own m K c (.inl 0) (src := kSrc c) (dst := kM) rfl rfl (oweX c order)) $$ [C0 A0 HO]
  · isplitr; · iexact HR
    isplitl [C0]; · iexact C0
    isplitl [HO]; · iexact HO
    isplitr; · iexact M0
    iexact A0
  iintro ⟨HO, P0, S0⟩
  iapply (wait_own m K c (.inl 1) (src := vSrc c) (dst := vM) rfl rfl (oweX c order)) $$ [C1 A1 HO]
  · isplitr; · iexact HR
    isplitl [C1]; · iexact C1
    isplitl [HO]; · iexact HO
    isplitr; · iexact M1
    iexact A1
  iintro ⟨HO, P1, S1⟩
  simp only [oPay, ldPay]
  icases P0 with ⟨Hk, Hks⟩
  icases P1 with ⟨Hv, Hvs⟩
  have e1 : (lnM.view.slice (Rect.unit (s := S32x1) ![0, 0] S32x1.size inb_S32x1_S32x1_0_0)).read (Elt F) (lnv m c) = lnv m c :=
    Memref.readAt_unit_zero (Elt F) cc0_stg2_0 hz2 _ _
  have e2 : (btM.view.slice (Rect.unit (s := S32x256) ![0, 0] S32x256.size inb_S32x256_S32x256_0_0)).read (Elt F) (btv m c) = btv m c :=
    Memref.readAt_unit_zero (Elt F) cc0_stg1_0 hz2 _ _
  rw [e1, e2]
  iapply HK
  isplitl [HO]; · iexact HO
  isplitl [Hk Hv]
  · isplitl [Hk]; · iexact Hk
    iexact Hv
  isplitl [Hks Hvs]
  · isplitl [Hks]; · iexact Hks
    iexact Hvs
  isplitl [Hln Hbt]
  · isplitl [Hln]; · iexact Hln
    iexact Hbt
  isplitl [HZ]; · unfold zonesP; iexact HZ
  isplitl [Sb]; · iexact Sb
  isplitl [S0]; · iexact S0
  iexact S1

/-! ## The end -/

/-- The end: the result is stored, and the running state's buffers are whole again. -/
theorem endStep_spec {Q : PUnit → sProp 𝕄} :
    iprop((held3 (F := F) c 0 (st m 5 c 0) ∗ held3 (F := F) c 1 (st m 5 c 1)) ∗ held (F := F) c oM)
      ⊢ iprop((((held (F := F) c mM ∗ held (F := F) c lM ∗ held (F := F) c aM) ∗ atM (F := F) c oM (outv m c)) -∗ Q ⟨⟩) -∗ wpB c endStep Q) := by
  have hm := glueHeld (F := F) c mM rHalf apart_half cover_half
  have hl := glueHeld (F := F) c lM rHalf apart_half cover_half
  have ha := glueAll (F := F) c aM rAcc apart_acc (fun g => (st m 5 c g).a) cover_acc
  rw [bigSep_univ_eq_bigSepL [0, 1] (by decide) (by decide), bigSepL_cons_cons, bigSepL_singleton] at hm hl ha
  have ha' : iprop(piece (F := F) c aM (rAcc 0) (st m 5 c 0).a ∗ piece (F := F) c aM (rAcc 1) (st m 5 c 1).a)
      ⊢ iprop(∃ f, ⌜∀ t, (aM.view.slice (rAcc t)).read (Elt F) f = (st m 5 c t).a⌝ ∗ atM (F := F) c aM f) := ha
  have hm' : iprop(slot (F := F) c mM (rHalf 0) ∗ slot (F := F) c mM (rHalf 1)) ⊢ held (F := F) c mM := hm
  have hl' : iprop(slot (F := F) c lM (rHalf 0) ∗ slot (F := F) c lM (rHalf 1)) ⊢ held (F := F) c lM := hl
  unfold held3 endStep
  iintro ⟨⟨⟨Hm0, Hl0, Ha0⟩, ⟨Hm1, Hl1, Ha1⟩⟩, Ho⟩ HK
  ihave Ho := (show held (F := F) c oM ⊢ iprop(∃ f, atM (F := F) c oM f) from Entails.refl _) $$ Ho
  icases Ho with ⟨%fo, Ho⟩
  iapply (load_piece c) $$ Hl0; iintro Hl0
  iapply (load_piece c) $$ Hl1; iintro Hl1
  ihave Ha := ha' $$ [Ha0 Ha1]
  · isplitl [Ha0]; · iexact Ha0
    iexact Ha1
  icases Ha with ⟨%f, %hf, Ha⟩
  iapply (load_whole c (M := aM) f) $$ Ha; iintro Ha
  iapply (load_whole c (M := oM) fo) $$ Ho; iintro Ho
  iapply (wp_store 𝒱₀ (c : Thread nD τ) none Set.univ (m := oM) (r := Rect.unit (s := S32x1x16x128) ![0, 0, 0, 0] S32x1x16x128.size inb_S32x1x16x128_S32x1x16x128_0_0_0_0)
    (Mk := Finset.univ) (S := oM.view.set) (by rw [show (oM.view.set : Finset _) = Finset.univ from View.set_whole _]; exact Finset.subset_univ _)) $$ Ho
  iintro Ho
  have e3 : (aM.view.slice (Rect.unit (s := S2x8x32x128) ![0, 0, 0, 0] S2x8x32x128.size inb_S2x8x32x128_S2x8x32x128_0_0_0_0)).read (Elt F) f = accEnd m c := by
    refine (Memref.readAt_unit_zero (Elt F) cc0_scratch4 hz4 _ f).trans (funext fun x => ?_)
    have h := congrFun (hf (x 0)) (ValueIdx.ix4 (n0 := 1) (n1 := 8) (n2 := 32) (n3 := 128) 0 (x 1) (x 2) (x 3))
    refine Eq.trans ?_ h
    refine congrArg f ?_
    funext a
    apply Fin.ext
    fin_cases a
    · show (x 0).val = (x 0).val + 1 * 0; omega
    · show (x 1).val = 0 + 1 * (x 1).val; omega
    · show (x 2).val = 0 + 1 * (x 2).val; omega
    · show (x 3).val = 0 + 1 * (x 3).val; omega
  rw [e3]
  have e4 (w : FVec F S32x1x16x128 .f32) : oM.view.write (Elt F) fo w Finset.univ = w := write_whole cc0_stg3_0 fo w
  have e5 (w : FVec F S32x1x16x128 .f32) : (oM.access (Rect.unit (s := S32x1x16x128) ![0, 0, 0, 0] S32x1x16x128.size inb_S32x1x16x128_S32x1x16x128_0_0_0_0)).write (Elt F) fo w Finset.univ = w :=
    Memref.write_access_unit_zero_univ (Elt F) cc0_stg3_0 hz4 _ fo w
  rw [e5]
  rw [wp_ret]
  imodintro
  iapply HK
  isplitr [Ho]
  · isplitl [Hm0 Hm1]
    · iapply hm'
      isplitl [Hm0]
      · unfold slot; iexists _; iexact Hm0
      unfold slot; iexists _; iexact Hm1
    isplitl [Hl0 Hl1]
    · iapply hl'
      isplitl [Hl0]
      · unfold slot; iexists _; iexact Hl0
      unfold slot; iexists _; iexact Hl1
    unfold held; iexists f; iexact Ha
  iexact Ho

end Cert.PagedAttn

end
-- ==== Proof.Body.lean ====
/-
# The body of one device

What the body starts from and ends with, and that it gets from one to the other.
-/
module

public import proofs.«01_k».proof.Proof.Ends

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : CK → ℕ) (c : Dev nD)

/-! ## Families over the exchanges -/

/-- A family over all copies, exchange by exchange. -/
theorem copies_eq (Φ : XI → sProp 𝕄) : bigSep Finset.univ Φ = bigSep Finset.univ fun p : Fin 5 × Fin 2 => tri fun j => Φ (p.1, p.2, j) := by
  rw [bigSep_univ_equiv (Equiv.prodAssoc (Fin 5) (Fin 2) (Fin 3)) Φ, bigSep_univ_prod]
  refine bigSep_congr fun p _ => ?_
  exact bigSep_univ_eq_bigSepL [0, 1, 2] (by decide) (by decide) _

/-- A family over the exchanges, in their order. -/
theorem order_eq (Φ : Fin 5 × Fin 2 → sProp 𝕄) : bigSep Finset.univ Φ = bigSepL order Φ := bigSep_univ_eq_bigSepL order (by decide) (by decide) Φ

theorem fin2_eq (Φ : Fin 2 → sProp 𝕄) : bigSep Finset.univ Φ = iprop(Φ 0 ∗ Φ 1) := bigSep_univ_eq_bigSepL [0, 1] (by decide) (by decide) Φ
theorem fin5_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A device's landing slots, zone by zone and exchange by exchange; so its partners'. -/
theorem zones_eq : zones (F := F) c = bigSep Finset.univ fun p : Fin 5 × Fin 2 => zone1 (F := F) c p.1 p.2 := by
  rw [bigSep_univ_prod, fin5_eq]
  simp only [fin2_eq]
  rfl
theorem zonesP_eq : zonesP (F := F) c = bigSep Finset.univ fun p : Fin 5 × Fin 2 => zone1 (F := F) (ptr p.1 c) p.1 p.2 := by
  rw [bigSep_univ_prod, fin5_eq]
  simp only [fin2_eq]
  rfl

/-! ## The scratch buffers, cut and glued -/

/-- The kernel's scratch buffers, at any contents. -/
def scratch : sProp 𝕄 :=
  iprop((held (F := F) c kM ∗ held (F := F) c vM) ∗ (held (F := F) c mM ∗ held (F := F) c lM ∗ held (F := F) c aM) ∗ held (F := F) c bM
    ∗ (held (F := F) c rmM ∗ held (F := F) c rlM ∗ held (F := F) c raM))

theorem state_cut : iprop(held (F := F) c mM ∗ held (F := F) c lM ∗ held (F := F) c aM)
    ⊢ iprop(bigSep Finset.univ (colsAny (F := F) c 0) ∗ bigSep Finset.univ (colsAny (F := F) c 1)) := by
  have h : (bigSep Finset.univ fun t : Fin 2 × Fin 8 => colsAny (F := F) c t.1 t.2) = iprop(bigSep Finset.univ (colsAny (F := F) c 0) ∗ bigSep Finset.univ (colsAny (F := F) c 1)) := by
    rw [bigSep_univ_prod, fin2_eq]
  rw [← h]
  unfold colsAny
  rw [bigSep_sep', bigSep_sep']
  iintro ⟨H1, H2, H3⟩
  ihave H1 := (cut c mM _ apart_cols cover_cols) $$ H1
  ihave H2 := (cut c lM _ apart_cols cover_cols) $$ H2
  ihave H3 := (cut c aM _ apart_accs cover_accs) $$ H3
  isplitl [H1]; · iexact H1
  isplitl [H2]; · iexact H2
  iexact H3

theorem send_cut : held (F := F) c bM ⊢ iprop(slot (F := F) c bM (rAcc 0) ∗ slot (F := F) c bM (rAcc 1)) := by
  have h := cut (F := F) c bM rAcc apart_acc cover_acc
  rwa [fin2_eq] at h
theorem send_glue : iprop(slot (F := F) c bM (rAcc 0) ∗ slot (F := F) c bM (rAcc 1)) ⊢ held (F := F) c bM := by
  have h := glueHeld (F := F) c bM rAcc apart_acc cover_acc
  rwa [fin2_eq] at h

theorem land_cut : iprop(held (F := F) c rmM ∗ held (F := F) c rlM ∗ held (F := F) c raM) ⊢ zones (F := F) c := by
  rw [zones_eq]
  unfold zone1
  rw [bigSep_sep', bigSep_sep']
  iintro ⟨H1, H2, H3⟩
  ihave H1 := (cut c rmM _ apart_slot cover_slot) $$ H1
  ihave H2 := (cut c rlM _ apart_slot cover_slot) $$ H2
  ihave H3 := (cut c raM _ apart_slotA cover_slotA) $$ H3
  isplitl [H1]; · iexact H1
  isplitl [H2]; · iexact H2
  iexact H3
theorem land_glue : (bigSep Finset.univ fun p : Fin 5 × Fin 2 => zone1 (F := F) c p.1 p.2)
    ⊢ iprop(held (F := F) c rmM ∗ held (F := F) c rlM ∗ held (F := F) c raM) := by
  unfold zone1
  rw [bigSep_sep', bigSep_sep']
  iintro ⟨H1, H2, H3⟩
  ihave H1 := (glueHeld c rmM _ apart_slot cover_slot) $$ H1
  ihave H2 := (glueHeld c rlM _ apart_slot cover_slot) $$ H2
  ihave H3 := (glueHeld c raM _ apart_slotA cover_slotA) $$ H3
  isplitl [H1]; · iexact H1
  isplitl [H2]; · iexact H2
  iexact H3

/-! ## The pages in the main memory -/

/-- The device's keys and values. -/
def argsKV : sProp 𝕄 :=
  iprop((((c : Thread nD τ).loc main_arg1) ↦{fullShare} (m ((c : Thread nD τ).loc main_arg1)))
    ∗ (((c : Thread nD τ).loc main_arg2) ↦{fullShare} (m ((c : Thread nD τ).loc main_arg2))))

theorem pages_take : argsKV m c ⊢ iprop(pages m c ∗ (pages m c -∗ argsKV m c)) := by
  unfold argsKV pages
  have h1 := pointsTo_split_subset (ℓ := (c : Thread nD τ).loc main_arg1) (q := fullShare) (f := m ((c : Thread nD τ).loc main_arg1)) (Ix := Unit) (Name := ℕ) (U := UU) (Lvl := ℕ) (Finset.subset_univ (kSrc c).view.set)
  have h2 := pointsTo_split_subset (ℓ := (c : Thread nD τ).loc main_arg2) (q := fullShare) (f := m ((c : Thread nD τ).loc main_arg2)) (Ix := Unit) (Name := ℕ) (U := UU) (Lvl := ℕ) (Finset.subset_univ (vSrc c).view.set)
  iintro ⟨H1, H2⟩
  ihave H1 := h1.1 $$ H1
  ihave H2 := h2.1 $$ H2
  icases H1 with ⟨H1, R1⟩
  icases H2 with ⟨H2, R2⟩
  isplitl [H1 H2]
  · isplitl [H1]; · iexact H1
    iexact H2
  iintro ⟨H1, H2⟩
  isplitl [H1 R1]
  · iapply h1.2
    isplitl [H1]; · iexact H1
    iexact R1
  iapply h2.2
  isplitl [H2]; · iexact H2
  iexact R2

/-! ## The ghost state -/

/-- A device's positions at its cells; the tokens of the duties it pays; the credits it is given at launch. -/
def pos : sProp 𝕄 :=
  iprop(atPos EX (barCell c) 0 ∅ 0 ∗ (bigSep Finset.univ fun j : Fin 2 => atPos EX (ldCell c j) 0 ∅ 0)
    ∗ (bigSep Finset.univ fun x : XI => atPos EX (sCell c x) 0 ∅ 0) ∗ (bigSep Finset.univ fun x : XI => atPos EX (rCell c x) 0 ∅ 0))
def myToks : sProp 𝕄 :=
  iprop((bigSep Finset.univ fun r : Fin 5 => dutyTok EX (barCell (ptr r c)) 0 r) ∗ (bigSep Finset.univ fun j : Fin 2 => dutyTok EX (ldCell c j) 0 0)
    ∗ (bigSep Finset.univ fun x : XI => dutyTok EX (sCell c x) 0 0) ∗ (bigSep Finset.univ fun x : XI => dutyTok EX (rCell (ptr x.1 c) x) 0 0))
def myCreds : sProp 𝕄 :=
  iprop(cred (tallyAt (barCell c) () 5) ∗ bigSep Finset.univ fun x : XI => cred (tallyAt (rCell c x) () (amtX x.2.2)))

/-- All cells of a device at zero. -/
def zeros : sProp 𝕄 := iprop((bigSep Finset.univ fun k : OK => semVal (ocell c k) 0) ∗ semVal (barCell c) 0)

/-- The tokens and positions of the exchanges, and the partners' slots, make the exchanges' takings. -/
theorem kits_intro :
    iprop(zonesP (F := F) c
        ∗ ((bigSep Finset.univ fun x : XI => dutyTok EX (sCell c x) 0 0) ∗ (bigSep Finset.univ fun x : XI => dutyTok EX (rCell (ptr x.1 c) x) 0 0))
        ∗ (bigSep Finset.univ fun x : XI => atPos EX (sCell c x) 0 ∅ 0) ∗ (bigSep Finset.univ fun x : XI => atPos EX (rCell c x) 0 ∅ 0)
        ∗ (bigSep Finset.univ fun x : XI => cred (tallyAt (rCell c x) () (amtX x.2.2))))
      ⊢ bigSepL order (kit (F := F) c) := by
  have h1 := copies_eq (F := F) fun x => iprop(dutyTok EX (sCell c x) 0 0 ∗ dutyTok EX (rCell (ptr x.1 c) x) 0 0)
  have h2 := copies_eq (F := F) fun x => iprop(atPos EX (sCell c x) 0 ∅ 0 ∗ atPos EX (rCell c x) 0 ∅ 0 ∗ cred (tallyAt (rCell c x) () (amtX x.2.2)))
  rw [bigSep_sep'] at h1
  rw [bigSep_sep', bigSep_sep'] at h2
  rw [zonesP_eq, h1, h2, ← order_eq]
  unfold kit sendKit
  rw [bigSep_sep', bigSep_sep']
  iintro ⟨Hz, Ht, Hw⟩
  isplitl [Hz Ht]
  · isplitl [Hz]; · iexact Hz
    iexact Ht
  iexact Hw

/-- The exchanges over: the cells at zero, the landing slots. -/
theorem over_elim : bigSepL order (over (F := F) c)
    ⊢ iprop(((bigSep Finset.univ fun x : XI => semVal (sCell c x) 0) ∗ (bigSep Finset.univ fun x : XI => semVal (rCell c x) 0))
        ∗ bigSep Finset.univ fun p : Fin 5 × Fin 2 => zone1 (F := F) c p.1 p.2) := by
  have h1 := copies_eq (F := F) fun x => iprop(semVal (sCell c x) 0 ∗ semVal (rCell c x) 0)
  rw [bigSep_sep'] at h1
  rw [h1, ← order_eq]
  unfold over
  rw [bigSep_sep']
  exact Entails.refl _

theorem zeros_intro :
    iprop(startSems c ∗ ((bigSep Finset.univ fun x : XI => semVal (sCell c x) 0) ∗ (bigSep Finset.univ fun x : XI => semVal (rCell c x) 0))) ⊢ (zeros c : sProp 𝕄) := by
  unfold zeros startSems
  have h1 (Φ : OK → sProp 𝕄) : bigSep Finset.univ Φ
      = iprop((bigSep Finset.univ fun j : Fin 2 => Φ (.inl j)) ∗ (bigSep Finset.univ fun x : XI => Φ (.inr (.inl x))) ∗ (bigSep Finset.univ fun x : XI => Φ (.inr (.inr x)))) := by
    rw [bigSep_univ_sum, bigSep_univ_sum]; rfl
  rw [h1, fin2_eq]
  iintro ⟨⟨Hb, H0, H1⟩, Hs, Hr⟩
  isplitr [Hb]
  · isplitl [H0 H1]
    · isplitl [H0]; · iexact H0
      iexact H1
    isplitl [Hs]; · iexact Hs
    iexact Hr
  iexact Hb

/-! ## The body -/

/-- What a device starts from. -/
def start : sProp 𝕄 := iprop((∃ K, records m K) ∗ (pos c ∗ myToks c) ∗ myCreds c ∗ levAts L lv ∗ argsKV m c)
def Φ₀ : sProp 𝕄 := iprop(start m c ∗ scratch (F := F) c)
/-- What it ends with. -/
def Φ₁ : sProp 𝕄 := iprop(scratch (F := F) c ∗ zeros c ∗ argsKV m c)

/-- The windows' buffers: the queries, the page table and the lengths. -/
def windowsIn : sProp 𝕄 := iprop(atM (F := F) c qM (qv m c) ∗ tables m c)

/-- The body from the launch to the end. -/
theorem body_spec {Q : PUnit → sProp 𝕄} :
    iprop(Φ₀ m c ∗ owing c (O₀ c) ∗ windowsIn m c ∗ held (F := F) c oM)
      ⊢ iprop(((Φ₁ m c ∗ owing c 0 ∗ windowsIn m c ∗ atM (F := F) c oM (outv m c)) -∗ Q ⟨⟩) -∗ wpB c steps Q) := by
  unfold Φ₀ Φ₁ start windowsIn scratch pos myToks myCreds
  rw [fin2_eq, fin5_eq, fin2_eq]
  iintro ⟨⟨⟨⟨%K, #HR⟩, ⟨⟨Ab, ⟨A0, A1⟩, As, Ar⟩, ⟨T0, T1, T2, T3, T4⟩, ⟨D0, D1⟩, Ts, Tr⟩, ⟨Cb, Cr⟩, #HL, Hkv⟩, ⟨Hk, Hv⟩, Hst, Hb, Hland⟩, HO, ⟨Hq, Htab⟩, Ho⟩ HQ
  ihave Hp := (pages_take m c) $$ Hkv
  icases Hp with ⟨Hpg, Hback⟩
  ihave Hz := (land_cut c) $$ Hland
  iapply (startStep_spec m K c) $$ [HO Hk Hv Hpg Htab Hz T0 T1 T2 T3 T4 D0 D1 Cb Ab A0 A1]
  · isplitr; · iexact HR
    isplitr; · iexact HL
    isplitl [HO]; · iexact HO
    isplitl [Hk Hv]
    · isplitl [Hk]; · iexact Hk
      iexact Hv
    isplitl [Hpg]; · iexact Hpg
    isplitl [Htab]; · iexact Htab
    isplitl [Hz]; · iexact Hz
    isplitl [T0 T1 T2 T3 T4 D0 D1]
    · isplitl [T0 T1 T2 T3 T4]
      · unfold barToks
        isplitl [T0]; · iexact T0
        isplitl [T1]; · iexact T1
        isplitl [T2]; · iexact T2
        isplitl [T3]; · iexact T3
        iexact T4
      unfold ldToks
      isplitl [D0]; · iexact D0
      iexact D1
    isplitl [Cb]; · iexact Cb
    isplitl [Ab]; · iexact Ab
    unfold ldPos
    isplitl [A0]; · iexact A0
    iexact A1
  iintro ⟨HO, ⟨Hk, Hv⟩, Hpg, Htab, Hz, Hss⟩
  ihave Hkits := (kits_intro c) $$ [Hz Ts Tr As Ar Cr]
  · isplitl [Hz]; · iexact Hz
    isplitl [Ts Tr]
    · isplitl [Ts]; · iexact Ts
      iexact Tr
    isplitl [As]; · iexact As
    isplitl [Ar]; · iexact Ar
    iexact Cr
  ihave Hst := (state_cut c) $$ Hst
  ihave Hb := (send_cut c) $$ Hb
  iapply (middle_spec m K c (k := endStep)) $$ [Hk Hv Hq Hst Hb Hkits HO]
  · isplitr; · iexact HR
    isplitr; · iexact HL
    isplitl [Hk Hv Hq]
    · unfold inputs
      isplitl [Hk]; · iexact Hk
      isplitl [Hv]; · iexact Hv
      iexact Hq
    isplitl [Hst]; · iexact Hst
    isplitl [Hb]; · iexact Hb
    isplitl [Hkits]; · iexact Hkits
    iexact HO
  iintro ⟨Hin, Hst, Hb, Hov, HO⟩
  iapply (endStep_spec m c) $$ [Hst Ho]
  · isplitl [Hst]; · iexact Hst
    iexact Ho
  iintro ⟨Hst, Ho⟩
  ihave Hov := (over_elim c) $$ Hov
  icases Hov with ⟨Hz, Hland⟩
  ihave Hland := (land_glue c) $$ Hland
  ihave Hb := (send_glue c) $$ Hb
  ihave Hzz := (zeros_intro c) $$ [Hss Hz]
  · isplitl [Hss]; · iexact Hss
    iexact Hz
  unfold inputs
  icases Hin with ⟨Hk, Hv, Hq⟩
  iapply HQ
  isplitl [Hk Hv Hst Hb Hland Hzz Hpg Hback]
  · isplitl [Hk Hv Hst Hb Hland]
    · isplitl [Hk Hv]
      · unfold held
        isplitl [Hk]; · iexists _; iexact Hk
        iexists _; iexact Hv
      isplitl [Hst]; · iexact Hst
      isplitl [Hb]; · iexact Hb
      iexact Hland
    isplitl [Hzz]; · iexact Hzz
    iapply Hback; iexact Hpg
  isplitl [HO]; · iexact HO
  isplitl [Hq Htab]
  · isplitl [Hq]; · iexact Hq
    iexact Htab
  iexact Ho

end Cert.PagedAttn

end
-- ==== Proof.Run.lean ====
/-
# The run

The launch of all devices: the cells' invariants, the tokens dealt to those who pay them, the credits for what others
owe, and what every final memory holds: the result array at the device's result, the arguments unchanged, all
counters at zero.
-/
module

public import proofs.«01_k».proof.Proof.Body
public import proofs.«01_k».proof.Proof.Gen.KernelIdeal.Points
public import Idealize.ShloMosaic.Lib.Pipeline.CollectiveSegs
public import Idealize.ShloMosaic.Adequacy
public import Idealize.ShloMosaic.Init

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- The one grid point: the windows' arrays at launch, their buffers after the body, what is owed before and after. -/
def dats (_ : Fin 1) (c : Dev nD) : Dat τ (Elt F) Unit ℕ UU ℕ cfg0 c where
  A w := m ((cfg0.win w).arr.view.loc (c : Thread nD τ))
  after w _ := match w with
    | ⟨0, _⟩ => qv m c
    | ⟨1, _⟩ => btv m c
    | ⟨2, _⟩ => lnv m c
    | ⟨3, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole staging buffer held by the pipeline is the buffer held. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((Memref.whole b).view.loc (c : Thread nD τ)), ⌜f = X⌝ ∗ atM (F := F) c (Memref.whole b) f) := by
  unfold owns atM; simp only [Memref.view_whole, View.read_whole, View.set_whole]

abbrev stg (c : Dev nD) (b : Ref sig .tc) (X : b.ty.Contents (Elt F)) : sProp 𝕄 :=
  iprop(∃ f : Buf (Elt F) ((Memref.whole b).view.loc (c : Thread nD τ)), ⌜f = X⌝ ∗ atM (F := F) c (Memref.whole b) f)

def bodyPre (c : Dev nD) : sProp 𝕄 :=
  iprop(Φ₀ m c ∗ (dats m 0 c).owesAt () t0_0.castSucc
    ∗ (∃ d, stg (F := F) c cc0_stg0_0 ((dats m 0 c).before (0 : Fin 4) t0_0 d)) ∗ (∃ d, stg (F := F) c cc0_stg1_0 ((dats m 0 c).before (1 : Fin 4) t0_0 d))
    ∗ (∃ d, stg (F := F) c cc0_stg2_0 ((dats m 0 c).before (2 : Fin 4) t0_0 d)) ∗ (∃ d, stg (F := F) c cc0_stg3_0 ((dats m 0 c).before (3 : Fin 4) t0_0 d)))
def bodyPost (c : Dev nD) : sProp 𝕄 :=
  iprop(Φ₁ m c ∗ (dats m 0 c).owesAt () t0_0.succ
    ∗ stg (F := F) c cc0_stg0_0 (qv m c) ∗ stg (F := F) c cc0_stg1_0 (btv m c) ∗ stg (F := F) c cc0_stg2_0 (lnv m c) ∗ stg (F := F) c cc0_stg3_0 (outv m c))

/-- What the pipeline fetched into the windows' buffers. -/
theorem before_q (c : Dev nD) (d) : (dats m 0 c).before (0 : Fin 4) t0_0 d = qv m c := by
  unfold Dat.before; rw [if_pos (fetch0_0 t0_0)]; rfl
theorem before_bt (c : Dev nD) (d) : (dats m 0 c).before (1 : Fin 4) t0_0 d = btv m c := by
  unfold Dat.before; rw [if_pos (fetch0_1 t0_0)]; rfl
theorem before_ln (c : Dev nD) (d) : (dats m 0 c).before (2 : Fin 4) t0_0 d = lnv m c := by
  unfold Dat.before; rw [if_pos (fetch0_2 t0_0)]; rfl

set_option maxRecDepth 100000 in
/-- The pipeline's demand on the body. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole]
  show bodyPre m c ⊢ wpB c bodyProg (fun _ => bodyPost m c)
  rw [body_eq_steps]
  unfold bodyPre Dat.owesAt Pipeline.owesWithin
  rw [show (dats m 0 c).owed t0_0.castSucc = O₀ c from rfl]
  simp only [before_q, before_bt, before_ln]
  iintro ⟨HΦ, ⟨%W, -, HO⟩, ⟨%d0, %g0, %h0, H0⟩, ⟨%d1, %g1, %h1, H1⟩, ⟨%d2, %g2, %h2, H2⟩, ⟨%d3, %g3, -, H3⟩⟩
  subst h0 h1 h2
  iapply (body_spec m c) $$ [HΦ HO H0 H1 H2 H3]
  · isplitl [HΦ]; · iexact HΦ
    isplitl [HO]; · unfold owing; iexists W; iexact HO
    isplitl [H0 H1 H2]
    · unfold windowsIn tables
      isplitl [H0]; · iexact H0
      isplitl [H2]; · iexact H2
      iexact H1
    unfold held; iexists g3; iexact H3
  unfold bodyPost windowsIn tables owing Dat.owesAt Pipeline.owesWithin
  rw [show (dats m 0 c).owed t0_0.succ = 0 from rfl]
  iintro ⟨HΦ, ⟨%W', HO⟩, ⟨H0, H2, H1⟩, H3⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-! ## The launch -/

theorem share_eq (c : Dev nD) (w : Fin cfg0.W) : (dats m 0 c).share w = fullShare := by unfold Dat.share; split <;> rfl

theorem csem_inj : Function.Injective csem := by
  rintro (u | k) (u' | k') h
  · rfl
  · exact absurd h.symm (osem_ne_bar k')
  · exact absurd h (osem_ne_bar k)
  · exact congrArg Sum.inr (osem_inj h)
theorem kcell_inj : Function.Injective (kcell : CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- The duties of one device's cells: five of its barrier cell, one of each own cell. -/
abbrev DI : Type := Fin 5 ⊕ OK
instance decDI : DecidableEq DI := inferInstance
def tokOf (x : Dev nD × DI) : GSem nD τ sig × ℕ × Fin 5 := match x.2 with
  | .inl r => (barCell x.1, 0, r)
  | .inr k => (ocell x.1 k, 0, 0)
theorem tokOf_inj : Function.Injective tokOf := by
  rintro ⟨c, k⟩ ⟨c', k'⟩ h
  have h1 : c = c' := by
    have := congrArg (fun g : GSem nD τ sig × ℕ × Fin 5 => g.1.1.1) h
    rcases k with r | k <;> rcases k' with r' | k' <;> exact this
  have h2 : k = k' := by
    rcases k with r | k <;> rcases k' with r' | k'
    · exact congrArg Sum.inl (congrArg (fun g : GSem nD τ sig × ℕ × Fin 5 => g.2.2) h)
    · exact absurd (congrArg (fun g : GSem nD τ sig × ℕ × Fin 5 => g.1.2) h).symm (osem_ne_bar k')
    · exact absurd (congrArg (fun g : GSem nD τ sig × ℕ × Fin 5 => g.1.2) h) (osem_ne_bar k)
    · exact congrArg Sum.inr (osem_inj (congrArg (fun g : GSem nD τ sig × ℕ × Fin 5 => g.1.2) h))
  rw [h1, h2]
def allToks : Finset (GSem nD τ sig × ℕ × Fin 5) := Finset.univ.map ⟨tokOf, tokOf_inj⟩

def u₀ : UU := (initOf (Pipeline.cells cfgs cellOf_inj) (Pipeline.launchToks cfgs cellOf_inj), initOf allCells allToks)

/-- The tokens of a device's own cells' duties. -/
def cellToks (c : Dev nD) : sProp 𝕄 :=
  iprop((bigSep Finset.univ fun r : Fin 5 => dutyTok EX (barCell c) 0 r) ∗ (bigSep Finset.univ fun k : OK => dutyTok EX (ocell c k) 0 0))

/-- What each device is dealt at launch, and what all together make of it. -/
def G (c : Dev nD) : sProp 𝕄 :=
  iprop((bigSep Finset.univ fun k : Unit ⊕ OK => roundState EX (sched m) (kcell (c, k)) 0)
    ∗ (bigSep Finset.univ fun k : Unit ⊕ OK => iprop(atPos EX (kcell (c, k)) 0 ∅ 0 ∗ reached EX (kcell (c, k)) 0)) ∗ cellToks c)
def G' (c : Dev nD) : sProp 𝕄 := iprop((∃ K, records m K) ∗ pos c ∗ myToks c)

theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Unit ⊕ OK => Φ (kcell (c, k)) := by
    unfold allCells; rw [bigSep_map, bigSep_univ_prod]; rfl
  have hT : bigSep allToks (fun x => (dutyTok EX x.1 x.2.1 x.2.2 : sProp 𝕄)) = bigSep Finset.univ fun c : Dev nD => cellToks c := by
    unfold allToks; rw [bigSep_map, bigSep_univ_prod]
    exact bigSep_congr fun c _ => by unfold cellToks; rw [bigSep_univ_sum]; rfl
  iintro HX
  imod (Rounds.fund EX (sched m) allCells allToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = bigSep Finset.univ fun k : OK => semVal (ocell c k) 0 := by unfold Pipeline.ownSems0; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ OK => semVal (kcell (c, k)) 0 : sProp 𝕄) := by
  have h : (bigSep Finset.univ fun k : Unit ⊕ OK => (semVal (kcell (c, k)) 0 : sProp 𝕄))
      = iprop((bigSep Finset.univ fun u : Unit => semVal (kcell (c, .inl u)) 0) ∗ bigSep Finset.univ fun k : OK => semVal (kcell (c, .inr k)) 0) := bigSep_univ_sum _
  have h1 : (bigSep Finset.univ fun u : Unit => (semVal (kcell (c, .inl u)) 0 : sProp 𝕄)) = semVal (barCell c) 0 := by
    rw [show (Finset.univ : Finset Unit) = {()} from rfl, bigSep_singleton]; rfl
  rw [h, h1, own_eq, unscoped_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ cellToks c) := by
  unfold G
  iintro ⟨Hos, Hus, Hst, Hat, Htok⟩
  ihave Hv := (sems_all (F := F) c) $$ [Hos Hus]
  · isplitl [Hos] <;> iassumption
  imod (show iprop((bigSep Finset.univ fun k : Unit ⊕ OK => semVal (kcell (c, k)) 0) ∗ bigSep Finset.univ fun k : Unit ⊕ OK => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over the own cells, by its three kinds. -/
theorem own_split (Φ : OK → sProp 𝕄) : bigSep Finset.univ Φ
    = iprop((bigSep Finset.univ fun j : Fin 2 => Φ (.inl j)) ∗ (bigSep Finset.univ fun x : XI => Φ (.inr (.inl x))) ∗ (bigSep Finset.univ fun x : XI => Φ (.inr (.inr x)))) := by
  rw [bigSep_univ_sum, bigSep_univ_sum]; rfl

/-- Dealing a family to the partners: for each index, its round's partner's part. -/
theorem deal {I : Type} [Fintype I] [DecidableEq I] (rd : I → Fin 5) (Φ : Dev nD → I → sProp 𝕄) :
    (bigSep Finset.univ fun c : Dev nD => bigSep Finset.univ fun i : I => Φ c i) = bigSep Finset.univ fun c : Dev nD => bigSep Finset.univ fun i : I => Φ (ptr (rd i) c) i := by
  rw [← bigSep_univ_prod (fun p : Dev nD × I => Φ p.1 p.2), ← bigSep_univ_prod (fun p : Dev nD × I => Φ (ptr (rd p.2) p.1) p.2)]
  exact bigSep_univ_equiv (Equiv.prodCongrLeft fun i : I => swap (rd i)) fun p : Dev nD × I => Φ p.1 p.2

/-- The tokens go to those who pay the duties. -/
theorem toks_deal : (bigSep Finset.univ fun c : Dev nD => (cellToks c : sProp 𝕄)) = bigSep Finset.univ fun c : Dev nD => myToks c := by
  unfold cellToks myToks
  simp only [own_split]
  rw [bigSep_sep', bigSep_sep', bigSep_sep', bigSep_sep', bigSep_sep', bigSep_sep',
    deal (fun r => r) fun c r => (dutyTok EX (barCell c) 0 r : sProp 𝕄), deal (fun x : XI => x.1) fun c x => (dutyTok EX (rCell c x) 0 0 : sProp 𝕄)]

theorem pos_eq (c : Dev nD) : (bigSep Finset.univ fun k : Unit ⊕ OK => (atPos EX (kcell (c, k)) 0 ∅ 0 : sProp 𝕄)) = pos c := by
  unfold pos
  rw [bigSep_univ_sum, show (Finset.univ : Finset Unit) = {()} from rfl, bigSep_singleton, own_split]
  rfl

theorem records_deal {S : Finset (Dev nD)} {R : sProp 𝕄} [BI.Persistent R] {Φ Ψ : Dev nD → sProp 𝕄} (h : ∀ i ∈ S, iprop(R ∗ Φ i) ⊢ Ψ i) :
    iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ cellToks c) : sProp 𝕄)
      ⊢ bigSep Finset.univ (G' m) := by
  rw [bigSep_sep', bigSep_sep', ← bigSep_univ_prod (fun ck : CK => iprop(∃ κ : ℕ, cellInv EX (sched m) κ (kcell ck))),
    bigSep_congr (s := Finset.univ) (fun (c : Dev nD) _ => bigSep_sep' Finset.univ (fun k : Unit ⊕ OK => (atPos EX (kcell (c, k)) 0 ∅ 0 : sProp 𝕄)) (fun k => reached EX (kcell (c, k)) 0)),
    bigSep_sep', ← bigSep_univ_prod (fun ck : CK => (reached EX (kcell ck) 0 : sProp 𝕄)), toks_deal]
  simp only [pos_eq]
  iintro ⟨HI, ⟨Hat, #HR⟩, Htok⟩
  ihave HK := (BI.bigSep_exists_pi Finset.univ (fun (ck : CK) (κ : ℕ) => (cellInv EX (sched m) κ (kcell ck) : sProp 𝕄))) $$ HI
  icases HK with ⟨%K, #HI⟩
  have hd (c : Dev nD) : iprop(records m K ∗ iprop(pos c ∗ myToks c)) ⊢ G' m c := by
    unfold G'
    iintro ⟨#H, Hp⟩
    isplitr; · iexists K; iexact H
    iexact Hp
  iapply (records_deal (R := records m K) fun c _ => hd c)
  isplitr
  · unfold records; isplitl; · iexact HI
    iexact HR
  rw [bigSep_sep']
  isplitl [Hat]; · iexact Hat
  iexact Htok

/-- All devices' semaphores and dealings at once become what each starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The exchanges still owed, as a sum over the list. -/
theorem oweX_sum (d : Dev nD) (l : List (Fin 5 × Fin 2)) :
    oweX d l = (l.map fun p => ∑ k : Fin 3, tallyAt (rCell (ptr p.1 d) (p.1, p.2, k)) () (amtX k)).sum := by
  induction l with
  | nil => rfl
  | cons p t ih =>
    rw [List.map_cons, List.sum_cons, ← ih, Fin.sum_univ_three]
    show oweX d t + _ + _ + _ = _
    generalize tallyAt (rCell (ptr p.1 d) (p.1, p.2, 0)) () (amtX 0) = A0
    generalize tallyAt (rCell (ptr p.1 d) (p.1, p.2, 1)) () (amtX 1) = A1
    generalize tallyAt (rCell (ptr p.1 d) (p.1, p.2, 2)) () (amtX 2) = A2
    generalize oweX d t = A3
    simp only [add_assoc, add_comm, add_left_comm]

theorem add_reverse {A : Type} [AddCommMonoid A] (x a b c d e : A) : x + e + d + c + b + a = a + b + c + d + e + x := by
  simp only [add_assoc, add_comm, add_left_comm]

/-- A sum over the exchanges of all rounds and halves, as the list has it. -/
theorem order_sum {A : Type} [AddCommMonoid A] (f : Fin 5 × Fin 2 → A) : (order.map f).sum = ∑ p : Fin 5 × Fin 2, f p := by
  simp only [Fintype.sum_prod_type, order, List.map_cons, List.map_nil, List.sum_cons, List.sum_nil, Fin.sum_univ_five, Fin.sum_univ_two, add_assoc, add_zero]

/-- A sum over all copies, copy by copy within each exchange. -/
theorem copies_sum {A : Type} [AddCommMonoid A] (f : XI → A) : ∑ x : XI, f x = ∑ p : Fin 5 × Fin 2, ∑ k : Fin 3, f (p.1, p.2, k) := by
  rw [Fintype.sum_prod_type, Fintype.sum_prod_type]
  exact Finset.sum_congr rfl fun r _ => Fintype.sum_prod_type _

/-- What a device owes: a unit to each partner's barrier cell, a message to each of the partners' landing cells. -/
theorem owed_eq : O₀ = fun d : Dev nD => (∑ r : Fin 5, tallyAt (barCell (ptr r d)) () 1) + ∑ x : XI, tallyAt (rCell (ptr x.1 d) x) () (amtX x.2.2) := by
  funext d
  have hx : oweX d order = ∑ x : XI, tallyAt (rCell (ptr x.1 d) x) () (amtX x.2.2) := by
    rw [oweX_sum, order_sum, copies_sum]
  rw [← hx, Fin.sum_univ_five]
  exact add_reverse _ _ _ _ _ _

/-- What the others owe a device, as its credits. -/
theorem creds (c : Dev nD) : (Pipeline.launchCred O₀ c : sProp 𝕄) ⊢ myCreds c := by
  rw [owed_eq, Pipeline.launchCred_add, Pipeline.launchCred_sum, Pipeline.launchCred_sum]
  have h1 : (bigSep Finset.univ fun r : Fin 5 => Pipeline.launchCred (fun d : Dev nD => tallyAt (barCell (ptr r d)) () 1) c) ⊢ (cred (tallyAt (barCell c) () 5) : sProp 𝕄) := by
    have h5 : (tallyAt (barCell c) () 5 : CellTallies nD τ sig Unit) = ∑ r : Fin 5, tallyAt (barCell c) () 1 := by
      simp only [Fin.sum_univ_five, tallyAt_add]
    rw [h5, Pipeline.cred_finsetSum]
    exact bigSep_mono fun r _ => Pipeline.launchCred_tallyAt (.reg barS) (ptr r) (ptr r) (ptr_ptr r) (ptr_ptr r) () 1 c
  have h2 : (bigSep Finset.univ fun x : XI => Pipeline.launchCred (fun d : Dev nD => tallyAt (rCell (ptr x.1 d) x) () (amtX x.2.2)) c)
      ⊢ (bigSep Finset.univ fun x : XI => cred (tallyAt (rCell c x) () (amtX x.2.2)) : sProp 𝕄) :=
    bigSep_mono fun x _ => Pipeline.launchCred_tallyAt (osem (.inr (.inr x))) (ptr x.1) (ptr x.1) (ptr_ptr x.1) (ptr_ptr x.1) () (amtX x.2.2) c
  unfold myCreds
  exact Laws.sep_mono h1 h2

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start G' argsKV
  icases HG with ⟨HR, HP, HT⟩
  isplitl
  · isplitl [HR]; · iexact HR
    isplitl [HP HT]
    · isplitl [HP]; · iexact HP
      iexact HT
    isplitl [Hc]; · iexact Hc
    isplitl [Hlev]; · iexact Hlev
    iexact HA
  · iempintro

/-- A scratch buffer at some contents, as the launch holds it and as the body does. -/
theorem held_eq (c : Dev nD) (b : Ref sig .tc) :
    (held (F := F) c (Memref.whole b) : sProp 𝕄) = iprop(∃ f, ((c : Thread nD τ).loc b) ↦{fullShare} f) := by
  unfold held; simp only [Memref.view_whole, View.set_whole]

theorem scratch_eq (c : Dev nD) : (scratch (F := F) c : sProp 𝕄) ⊣⊢ Pipeline.scopedRest cfg0.spec c := by
  rw [scopedRest0_eq]; unfold scratch; simp only [held_eq]
  constructor
  · iintro ⟨⟨H0, H1⟩, ⟨H2, H3, H4⟩, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨H0, H1, H2, H3, H4, H5, H6, H7, H8⟩
    isplitl [H0 H1]
    · isplitl [H0]; · iexact H0
      iexact H1
    isplitl [H2 H3 H4]
    · isplitl [H2]; · iexact H2
      isplitl [H3]; · iexact H3
      iexact H4
    isplitl [H5]; · iexact H5
    isplitl [H6]; · iexact H6
    isplitl [H7]; · iexact H7
    iexact H8

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_eq c).2; iexact Hr

theorem phi_last (c : Dev nD) :
    (dats m 0 c).Φ (Fin.last cfg0.N) ⊢ iprop((unscopedSems0 c ∗ argsKV m c) ∗ Pipeline.ownSems0 osem c ∗ Pipeline.scopedRest cfg0.spec c) := by
  rw [show (dats m 0 c).Φ (Fin.last cfg0.N) = Φ₁ m c from rfl, own_eq, unscoped_eq]
  unfold Φ₁ zeros
  iintro ⟨Hr, ⟨HS, HB⟩, HA⟩
  isplitl [HB HA]
  · isplitl [HB]; · iexact HB
    iexact HA
  isplitl [HS]; · iexact HS
  iapply (scratch_eq c).1; iexact Hr

/-- The staging semaphores are none of the kernel's own, and come first. -/
theorem lv_stage (c : Dev nD) (w : Fin cfg0.W) (s) : lv ((c : Thread nD τ), .dma ((cfg0.spec w).sem s)) () = 0 := by
  have h : kindOf (.dma ((cfg0.spec w).sem s)) = none := by
    unfold kindOf Function.partialInv; exact dif_neg fun ⟨k, hk⟩ => ownSemFacts.disj k w s hk
  unfold lv; rw [if_neg (fun h => by cases h), h]

theorem waits (c : Dev nD) : (levAts L lv : sProp 𝕄) ⊢ Pipeline.cellsWaits cfgs (dats m) () 0 c :=
  Pipeline.cellsWaits_intro cfgs (dats m) () 0 c fun w s t =>
    mayWait_stage c _ (lv_stage c w _) _ (by
      rcases t with ⟨_ | _, ht⟩
      · exact Or.inl rfl
      · exact Or.inr rfl)

/-- What one device's final state shows: its unscoped counters at zero, the page arrays unchanged. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg2) = m ((c : Thread nD τ).loc main_arg2)

theorem seen (c : Dev nD) (s' : Phys nD τ sig (Elt F)) :
    iprop((unscopedSems0 c ∗ argsKV m c) ∗ emp ∗ SI s') ⊢ (|={Set.univ}=> iprop(⌜Seen m c s'.mem⌝ ∗ SI s') : sProp 𝕄) := by
  unfold argsKV
  iintro ⟨⟨Hu, H1, H2⟩, -, HSI⟩
  ihave %h1 := (SI_pointsTo_agree (st := s') (ℓ := (c : Thread nD τ).loc main_arg1) (q := fullShare) (I := Finset.univ) (f := m ((c : Thread nD τ).loc main_arg1))) $$ [HSI H1]
  · isplitl [HSI] <;> iassumption
  ihave %h2 := (SI_pointsTo_agree (st := s') (ℓ := (c : Thread nD τ).loc main_arg2) (q := fullShare) (I := Finset.univ) (f := m ((c : Thread nD τ).loc main_arg2))) $$ [HSI H2]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro; exact ⟨h, Buf.eq_of_forall_mem_univ h1, Buf.eq_of_forall_mem_univ h2⟩
  iexact HSI

set_option maxRecDepth 100000 in
/-- Every execution from zero counters ends, with the windows' arrays as the pipeline leaves them, the page arrays
unchanged and every counter at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_arg1) = m ((c : Thread nD τ).loc main_arg1) ∧ r.2.mem ((c : Thread nD τ).loc main_arg2) = m ((c : Thread nD τ).loc main_arg2))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argsKV m c)) (Z := fun _ => iprop(emp))
    (hX := start_intro m ρ) (hin := phi_first m) (hout := phi_last m)
    (QY := Seen m) (hY := seen m)
    (hQ := fun _ h hs => ⟨fun c => ⟨fun w => (h c).1 w, (h c).2.2.2.1, (h c).2.2.2.2⟩, sem_eq_zero hs fun c => (h c).2.2.1⟩)

end Cert.PagedAttn

end
-- ==== Proof.Frames.lean ====
/-
# What a run ends with

The run of the launch, read at the program's own arrays: the result array holds the device's result, the five
arguments are what they were, every counter is at zero. The frames of the kernel at both float instances, and of the
reference.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.PagedAttn

open Cert.KernelIdeal Cert.KernelIdeal.Gen
open Idealize.ShloMosaic Idealize.ShloMosaic.TcCoe
open Idealize.SL.Sem
open Idealize.ShloMosaic.Pipeline (Dat)

variable {F : FTy → Type} [FloatOps F] [Named F]

variable (m : (ℓ : Loc nD τ sig) → Buf (Elt F) ℓ) (ρ : Dev nD → PrngReg) (c : Dev nD)

/-- The windows of the inputs and of the result are their whole arrays. -/
theorem qv_eq : qv m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem btv_eq : btv m c = m ((c : Thread nD τ).loc main_arg3) := by
  have hz : (fun a => (win0_1.index (0 : Fin 1)) a * main_arg3.ty.shape.size a) = fun _ => 0 := funext fun a => by fin_cases a <;> decide
  exact Memref.read_access_unit_zero (Elt F) main_arg3 hz (fun a => by fin_cases a <;> decide) _
theorem lnv_eq : lnv m c = m ((c : Thread nD τ).loc main_arg4) := by
  have hz : (fun a => (win0_2.index (0 : Fin 1)) a * main_arg4.ty.shape.size a) = fun _ => 0 := funext fun a => by fin_cases a <;> decide
  exact Memref.read_access_unit_zero (Elt F) main_arg4 hz (fun a => by fin_cases a <;> decide) _

theorem final_in (w : Fin 4) (h : (cfg0.win w).isOut = false) : (dats m 0 c).arrAt w cfg0.N = m ((cfg0.win w).arr.view.loc (c : Thread nD τ)) :=
  (dats (F := F) m 0 c).arrAt_in w h _

theorem final_out : (dats m 0 c).arrAt (3 : Fin 4) cfg0.N = outv m c := by
  have h : (win0_3.blk (0 : Fin 1)).view.read (Elt F) ((dats m 0 c).arrAt (3 : Fin 4) cfg0.N) = outv m c := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ (v := (win0_3.blk (0 : Fin 1)).view) _ _
  have hz : (fun a => (win0_3.index (0 : Fin 1)) a * main_v1.ty.shape.size a) = fun _ => 0 := funext fun a => by fin_cases a <;> decide
  rw [← h]
  exact (Memref.read_access_unit_zero (Elt F) main_v1 hz (fun a => by fin_cases a <;> decide) _).symm

/-- Every execution ends with the device's result in the result array, the arguments unchanged, all counters at zero. -/
theorem run_end : θ_run defs (onTc (τ := τ) (main (F := F))) ⟨m, fun _ => 0, ρ⟩ (fun r =>
    (∀ c : Dev nD, r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨((h.1 c).1 (3 : Fin 4)).trans (final_out m c),
      ((h.1 c).1 (0 : Fin 4)).trans (final_in m c 0 rfl), (h.1 c).2.1, (h.1 c).2.2,
      ((h.1 c).1 (1 : Fin 4)).trans (final_in m c 1 rfl), ((h.1 c).1 (2 : Fin 4)).trans (final_in m c 2 rfl)⟩, h.2⟩) (run_main m ρ)

/-- The frame, at any floats. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_end m ρ)

/-- The frame of the kernel at the ideal instance. -/
theorem frame_ideal : Cert.quiescent_KernelIdeal := fun m ρ _ => run_frame (F := Ideal) m ρ

/-- The named constants read as the words they were printed for. -/
abbrev wordNamed : Named F := ⟨fun _ _ {φ} b => FloatOps.ofBits φ b⟩

omit [Named F] in
set_option maxRecDepth 100000 in
set_option maxHeartbeats 4000000 in
/-- With the constants read as words, the two prints of the kernel have one body table. -/
theorem bodies_same : Cert.Kernel.defs₀ (F := F) = @Cert.KernelIdeal.defs₀ F _ wordNamed _ := by
  unfold Cert.Kernel.defs₀ Cert.KernelIdeal.defs₀
  refine congrArg Defs.onTc ?_
  funext l a
  fin_cases l
  rcases a with ⟨t, s⟩
  rfl

omit [Named F] in
theorem defs_same : Cert.Kernel.defs (F := F) = @Cert.KernelIdeal.defs F _ wordNamed _ := by
  unfold Cert.Kernel.defs Cert.KernelIdeal.defs
  exact congrArg (Pipeline.defs pcfgs) bodies_same

/-- The frame of the kernel on bits: the same text. -/
theorem frame_bits : Cert.quiescent_Kernel := fun m ρ _ => by
  letI : Named Bits := wordNamed
  have h := run_frame (F := Bits) m ρ
  rw [← defs_same] at h
  exact h

/-- The frame of the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.PagedAttn

end
-- ==== Proof.Reads.lean ====
/-
# The kernel's pieces, entry by entry

At the extended reals each pure step of the kernel is read at one entry: the maxima, sums and products of one head, one
merge, the last quotient.
-/
module

public import proofs.«01_k».proof.Proof.State
public import Idealize.ShloMosaic.Lib.Pointwise
public import Idealize.ShloMosaic.PureOps.Ideal.Laws

@[expose] public section

noncomputable section

namespace Cert.PagedAttn

open Cert.KernelIdeal Cert.KernelIdeal.Gen
open Idealize.ShloMosaic Idealize.ShloMosaic.TcCoe
open Idealize.ShloMosaic.Pointwise

/-! ## Constants -/

/-- The mask is minus infinity. -/
theorem neg_inf : Ideal.ofBits .f32 4286578688#32 = ⊥ := by
  simp [Ideal.ofBits, Ideal.ieee]

/-- The head size is 128. -/
theorem head_size : Ideal.ofBits .f32 1124073472#32 = ((128 : ℝ) : EReal) := by
  simp [Ideal.ofBits, Ideal.ieee, -EReal.coe_mul]; norm_num

/-- The named scale is the inverse root of the head size. -/
theorem scale : (Named.named (F := Ideal) (φ := .f32) κ "inv_sqrt_d" 1035273459#32 : EReal) = (((Real.sqrt 128)⁻¹ : ℝ) : EReal) := rfl

/-! ## One head -/

section
variable (w : FVec Ideal S32x512 .f32) (k v : Vec Ideal S16x32x1x128 .f32) (q : Vec Ideal S32x1x128 .f32)

/-- The scaled scores of one head. -/
abbrev scores : FVec Ideal S32x512 .f32 := k0_pay6 (k0_pay4 k) q

theorem scores_apply (b : Fin 32) (t : Fin 512) :
    scores k q (ix2 b t) = ∑ x : Fin 128, q (ix3 b 0 x) * (((Real.sqrt 128)⁻¹ : ℝ) : EReal)
      * k (ix4 ⟨t.val / 32, by omega⟩ ⟨t.val % 32, by omega⟩ 0 x) := by
  pointwise [k0_pay6, k0_pay4]
  rfl

theorem headM_apply (b : Fin 32) :
    headM k q (ix3 0 b 0) = (Finset.univ : Finset (Fin 512)).fold max ⊥ (fun x => scores k q (ix2 b x)) := by
  pointwise [headM, k0_pay7, k0_pay9]
  rw [neg_inf]

theorem headL_apply (b : Fin 32) :
    headL w k q (ix3 0 b 0) = ∑ x : Fin 512, Ideal.exp (scores k q (ix2 b x) - (Finset.univ : Finset (Fin 512)).fold max ⊥ (fun x => scores k q (ix2 b x)))
      * w (ix2 b x) := by
  pointwise [headL, k0_pay8, k0_pay10, k0_pay7]
  rw [neg_inf]

theorem headA_apply (b : Fin 32) (d : Fin 128) :
    headA w k v q (ix4 0 0 b d) = ∑ x : Fin 512, Ideal.exp (scores k q (ix2 b x) - (Finset.univ : Finset (Fin 512)).fold max ⊥ (fun x => scores k q (ix2 b x)))
      * w (ix2 b x) * v (ix4 ⟨x.val / 32, by omega⟩ ⟨x.val % 32, by omega⟩ 0 d) := by
  pointwise [headA, k0_pay8, k0_pay11, k0_pay7, k0_pay5]
  rw [neg_inf]

end

/-! ## Merges and the quotient -/

theorem merge_m (s t : St Ideal) (b : Fin 32) (i : Fin 8) : (merge s t).m (ix3 0 b i) = max (s.m (ix3 0 b i)) (t.m (ix3 0 b i)) := by
  pointwise [merge, mergeM, k0_pay130, k0_pay133, k0_pay134, k0_pay137, slotM]

theorem merge_l (s t : St Ideal) (b : Fin 32) (i : Fin 8) :
    (merge s t).l (ix3 0 b i) = s.l (ix3 0 b i) * Ideal.exp (s.m (ix3 0 b i) - max (s.m (ix3 0 b i)) (t.m (ix3 0 b i)))
      + t.l (ix3 0 b i) * Ideal.exp (t.m (ix3 0 b i) - max (s.m (ix3 0 b i)) (t.m (ix3 0 b i))) := by
  pointwise [merge, mergeL, k0_pay130, k0_pay131, k0_pay133, k0_pay134, k0_pay135, k0_pay136, k0_pay138, slotM]

theorem merge_a (s t : St Ideal) (b : Fin 32) (i : Fin 8) (d : Fin 128) :
    (merge s t).a (ix4 0 i b d) = s.a (ix4 0 i b d) * Ideal.exp (s.m (ix3 0 b i) - max (s.m (ix3 0 b i)) (t.m (ix3 0 b i)))
      + t.a (ix4 0 i b d) * Ideal.exp (t.m (ix3 0 b i) - max (s.m (ix3 0 b i)) (t.m (ix3 0 b i))) := by
  pointwise [merge, mergeA, k0_pay130, k0_pay132, k0_pay133, k0_pay134, k0_pay135, k0_pay136, k0_pay139, slotM, slotA, roundA, k0_pay69]

theorem outOf_apply (l0 l1 : Vec Ideal S1x32x8 .f32) (a : Vec Ideal S2x8x32x128 .f32) (b : Fin 32) (h : Fin 16) (d : Fin 128) :
    outOf l0 l1 a (ix4 b 0 h d) = Ideal.div (a (ix4 ⟨h.val / 8, by omega⟩ ⟨h.val % 8, by omega⟩ b d))
      (if h' : h.val < 8 then l0 (ix3 0 b ⟨h.val, h'⟩) else l1 (ix3 0 b ⟨h.val - 8, by omega⟩)) := by
  pointwise [outOf, k0_pay1, k0_pay249, k0_pay250]

/-! ## A half's columns -/

theorem ofCols_apply (f : Fin 8 → Vec Ideal S1x32x1 .f32) (b : Fin 32) (i : Fin 8) : ofCols f (ix3 0 b i) = f i (ix3 0 b 0) := by
  refine congrArg (f i) ?_
  funext a; match a with | 0 => rfl | 1 => rfl | 2 => rfl

theorem ofAccs_apply (f : Fin 8 → Vec Ideal S1x1x32x128 .f32) (b : Fin 32) (i : Fin 8) (d : Fin 128) :
    ofAccs f (ix4 0 i b d) = f i (ix4 0 0 b d) := by
  refine congrArg (f i) ?_
  funext a; match a with | 0 => rfl | 1 => rfl | 2 => rfl | 3 => rfl

end Cert.PagedAttn

end
-- ==== Proof.Weigh.lean ====
/-
# Weighted means over the extended reals

An attention result is a quotient: the values weighted by the exponentials of their scores, over the sum of the weights.
A partial result carries both sums scaled by the exponential of minus its running maximum. The lemmas here read a partial
result, the merge of two of them, and the final quotient, in terms of the unscaled sums. The values may be infinite: only
a product with a nonnegative real is ever distributed over a sum.
-/
module

public import Idealize.ShloMosaic.PureOps.Ideal.Laws

@[expose] public section

noncomputable section

namespace Cert.PagedAttn

open Idealize.ShloMosaic

/-! ## Sums -/

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real distributes over any sum. -/
theorem real_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The greatest of finitely many extended reals, none of them `⊤` and one of them not `⊥`, is a real. -/
theorem max_real {ι : Type*} [Fintype ι] (S : ι → EReal) (ht : ∀ i, S i ≠ ⊤) {i : ι} (hb : S i ≠ ⊥) :
    ∃ M : ℝ, (Finset.univ : Finset ι).fold max ⊥ S = (M : EReal) := by
  have h1 : (Finset.univ : Finset ι).fold max ⊥ S < ⊤ :=
    (Finset.fold_max_lt _).2 ⟨bot_lt_top, fun x _ => lt_top_iff_ne_top.2 (ht x)⟩
  have h2 : ⊥ < (Finset.univ : Finset ι).fold max ⊥ S :=
    (Finset.lt_fold_max _).2 (.inr ⟨i, Finset.mem_univ i, bot_lt_iff_ne_bot.2 hb⟩)
  exact ⟨_, (EReal.coe_toReal h1.ne h2.ne').symm⟩

/-! ## Weights -/

/-- The weight of a score: its exponential, nothing for a masked score. -/
def ew (s : EReal) : ℝ := (Ideal.exp s).toReal

theorem ew_bot : ew ⊥ = 0 := rfl
theorem ew_coe (r : ℝ) : ew (r : EReal) = Real.exp r := rfl
theorem ew_nonneg {s : EReal} : 0 ≤ ew s := by
  induction s with
  | bot => exact le_refl _
  | top => exact le_refl _
  | coe r => exact (Real.exp_pos r).le

/-- A score lowered by a real has its weight scaled. -/
theorem exp_sub_real {s : EReal} (hs : s ≠ ⊤) (M : ℝ) : Ideal.exp (s - (M : EReal)) = ((Real.exp (-M) * ew s : ℝ) : EReal) := by
  induction s with
  | bot => rw [EReal.bot_sub, ew_bot, mul_zero]; rfl
  | top => exact absurd rfl hs
  | coe r =>
    rw [← EReal.coe_sub, Ideal.exp_coe, ew_coe, ← Real.exp_add]
    congr 2; ring

/-- `m`, `l`, `a` are a partial result of the unscaled sums `L` (of the weights) and `A` (of the weighted values). -/
def Part (m l a : EReal) (L : ℝ) (A : EReal) : Prop :=
  ∃ M : ℝ, m = (M : EReal) ∧ l = ((Real.exp (-M) * L : ℝ) : EReal) ∧ a = ((Real.exp (-M) : ℝ) : EReal) * A

/-- The partial result of finitely many scores `S`, each counted `w` times. -/
theorem part_local {ι : Type*} [Fintype ι] (S : ι → EReal) (ht : ∀ i, S i ≠ ⊤) {i : ι} (hb : S i ≠ ⊥) (w : ι → ℝ) (v : ι → EReal) :
    Part ((Finset.univ : Finset ι).fold max ⊥ S)
      (∑ x, Ideal.exp (S x - (Finset.univ : Finset ι).fold max ⊥ S) * (w x : EReal))
      (∑ x, Ideal.exp (S x - (Finset.univ : Finset ι).fold max ⊥ S) * (w x : EReal) * v x)
      (∑ x, ew (S x) * w x) (∑ x, ((ew (S x) * w x : ℝ) : EReal) * v x) := by
  obtain ⟨M, hM⟩ := max_real S ht hb
  have e : ∀ x, Ideal.exp (S x - (M : EReal)) * (w x : EReal) = ((Real.exp (-M) * (ew (S x) * w x) : ℝ) : EReal) := fun x => by
    rw [exp_sub_real (ht x), ← EReal.coe_mul, mul_assoc]
  refine ⟨M, hM, ?_, ?_⟩
  · rw [hM, Finset.mul_sum, coe_sum]
    exact Finset.sum_congr rfl fun x _ => e x
  · rw [hM, real_mul_sum _ (Real.exp_pos _).le]
    exact Finset.sum_congr rfl fun x _ => by rw [e x, EReal.coe_mul, mul_assoc]

/-- One side of a merge, rescaled from its own maximum `M` to the common one `N`. -/
theorem rescale (M N : ℝ) : Real.exp (-M) * (Real.exp (-N) * Real.exp M) = Real.exp (-N) := by
  rw [← Real.exp_add, ← Real.exp_add]; congr 1; ring

/-- The merge of two partial results is the partial result of the added sums. -/
theorem part_merge {m l a m' l' a' : EReal} {L L' : ℝ} {A A' : EReal} (h : Part m l a L A) (h' : Part m' l' a' L' A') :
    Part (max m m') (l * Ideal.exp (m - max m m') + l' * Ideal.exp (m' - max m m'))
      (a * Ideal.exp (m - max m m') + a' * Ideal.exp (m' - max m m')) (L + L') (A + A') := by
  obtain ⟨M, rfl, rfl, rfl⟩ := h
  obtain ⟨M', rfl, rfl, rfl⟩ := h'
  have eN : max (M : EReal) (M' : EReal) = ((max M M' : ℝ) : EReal) := (EReal.coe_strictMono.monotone.map_max).symm
  refine ⟨max M M', eN, ?_, ?_⟩
  · rw [eN, exp_sub_real (EReal.coe_ne_top _), exp_sub_real (EReal.coe_ne_top _), ew_coe, ew_coe, ← EReal.coe_mul, ← EReal.coe_mul,
      ← EReal.coe_add]
    congr 1
    have h1 := rescale M (max M M'); have h2 := rescale M' (max M M')
    linear_combination L * h1 + L' * h2
  · rw [eN, exp_sub_real (EReal.coe_ne_top _), exp_sub_real (EReal.coe_ne_top _), ew_coe, ew_coe,
      mul_right_comm, ← EReal.coe_mul, rescale, mul_right_comm, ← EReal.coe_mul, rescale,
      EReal.left_distrib_of_nonneg_of_ne_top (EReal.coe_nonneg.2 (Real.exp_pos _).le) (EReal.coe_ne_top _)]

/-- The quotient of a partial result is the quotient of the unscaled sums. -/
theorem part_div {m l a : EReal} {L : ℝ} {A : EReal} (h : Part m l a L A) (hL : 0 < L) : Ideal.div a l = A * ((L⁻¹ : ℝ) : EReal) := by
  obtain ⟨M, rfl, rfl, rfl⟩ := h
  have hp := Real.exp_pos (-M)
  rw [Ideal.div_coe (mul_pos hp hL).ne', mul_comm _ A, mul_assoc, ← EReal.coe_mul]
  congr 2
  field_simp

/-- The weighted mean under normalised weights is the quotient of the sums. -/
theorem softmax_mean {ι : Type*} [Fintype ι] (S : ι → EReal) (ht : ∀ i, S i ≠ ⊤) {i : ι} (hb : S i ≠ ⊥) (v : ι → EReal)
    (hL : 0 < ∑ x, ew (S x)) :
    ∑ x, Ideal.div (Ideal.exp (S x - (Finset.univ : Finset ι).fold max ⊥ S))
        (∑ y, Ideal.exp (S y - (Finset.univ : Finset ι).fold max ⊥ S)) * v x
      = (∑ x, ((ew (S x) : ℝ) : EReal) * v x) * (((∑ x, ew (S x))⁻¹ : ℝ) : EReal) := by
  obtain ⟨M, hM⟩ := max_real S ht hb
  have hp := Real.exp_pos (-M)
  rw [hM, mul_comm _ (((∑ x, ew (S x))⁻¹ : ℝ) : EReal), real_mul_sum _ (inv_nonneg.2 hL.le)]
  have e : (∑ y, Ideal.exp (S y - (M : EReal))) = ((Real.exp (-M) * ∑ y, ew (S y) : ℝ) : EReal) := by
    rw [Finset.mul_sum, coe_sum]
    exact Finset.sum_congr rfl fun x _ => exp_sub_real (ht x) M
  rw [e]
  refine Finset.sum_congr rfl fun x _ => ?_
  rw [Ideal.div_coe (mul_pos hp hL).ne', exp_sub_real (ht x), ← EReal.coe_mul, ← mul_assoc, ← EReal.coe_mul]
  congr 2
  field_simp

/-! ## Counting -/

/-- A sum over entries that each pick a place is the sum over the places, each as often as it is picked. -/
theorem sum_picked {ι κ M : Type*} [Fintype ι] [Fintype κ] [DecidableEq κ] [AddCommMonoid M] (ok : ι → Prop) [DecidablePred ok]
    (pick : ι → κ) (g : κ → M) :
    ∑ p, (Finset.univ.filter fun n => ok n ∧ pick n = p).card • g p = ∑ n, if ok n then g (pick n) else 0 := by
  have e : ∀ p, (Finset.univ.filter fun n => ok n ∧ pick n = p).card • g p = ∑ n, if ok n ∧ pick n = p then g p else 0 := fun p => by
    rw [← Finset.sum_filter, Finset.sum_const]
  rw [Finset.sum_congr rfl fun p _ => e p, Finset.sum_comm]
  refine Finset.sum_congr rfl fun n _ => ?_
  by_cases h : ok n
  · rw [if_pos h, Finset.sum_eq_single (pick n)]
    · rw [if_pos ⟨h, rfl⟩]
    · exact fun p _ hp => if_neg fun q => hp q.2.symm
    · exact fun q => absurd (Finset.mem_univ _) q
  · rw [if_neg h]
    exact Finset.sum_eq_zero fun p _ => if_neg fun q => h q.1

end Cert.PagedAttn

end
-- ==== Proof.Counts.lean ====
/-
# The page weights

The weight a device gives its `j`-th page for sequence `b` is the number of entries of the sequence's page table, among the
first `lens b` ones, that name the page.
-/
module

public import proofs.«01_k».proof.Proof.Reads
public import proofs.«01_k».proof.Proof.Weigh
public import Idealize.ShloMosaic.Lib.WordCmp

@[expose] public section

noncomputable section

namespace Cert.PagedAttn

open Cert.KernelIdeal Cert.KernelIdeal.Gen
open Idealize.ShloMosaic Idealize.ShloMosaic.TcCoe
open Idealize.ShloMosaic.Pointwise

/-- Entry `n` of sequence `b`'s page table is in use. -/
def used (ln : Vec Ideal S32x1 .i32) (b : Fin 32) (n : Fin 256) : Prop := (n.val : ℤ) < (ln (ix2 b 0)).toInt

instance (ln : Vec Ideal S32x1 .i32) (b : Fin 32) : DecidablePred (used ln b) := fun _ => inferInstanceAs (Decidable (_ < _))

/-- The number of a device's `j`-th page among all pages. -/
def page (c : Dev nD) (j : Fin 16) : Fin 512 := ⟨16 * c.val + j.val, by have := c.isLt; have : c.val < 32 := c.isLt; omega⟩

/-- How often sequence `b` reads page `p`. -/
def reads (ln : Vec Ideal S32x1 .i32) (bt : Vec Ideal S32x256 .i32) (b : Fin 32) (p : Fin 512) : ℕ :=
  (Finset.univ.filter fun n : Fin 256 => used ln b n ∧ bt (ix2 b n) = BitVec.ofNat 32 p.val).card

/-- The first page number of a device, as the kernel computes it. -/
theorem page_base (c : Dev nD) (j : ℕ) : IntOp.addi (Scalar.addi (Scalar.muli (Scalar.remsi (Scalar.divsi c.word 16#32) 2#32) 256#32)
      (Scalar.muli (Scalar.addi (Scalar.muli (Scalar.remsi (Scalar.divsi c.word 4#32) 4#32) 4#32) (Scalar.remsi (Scalar.divsi c.word 1#32) 4#32)) 16#32))
      (BitVec.ofNat 32 j) = BitVec.ofNat 32 (16 * c.val + j) := by
  have e : (Scalar.addi (Scalar.muli (Scalar.remsi (Scalar.divsi c.word 16#32) 2#32) 256#32)
      (Scalar.muli (Scalar.addi (Scalar.muli (Scalar.remsi (Scalar.divsi c.word 4#32) 4#32) 4#32) (Scalar.remsi (Scalar.divsi c.word 1#32) 4#32)) 16#32))
      = BitVec.ofNat 32 (16 * c.val) := by revert c; decide +kernel
  rw [e]
  exact (BitVec.ofNat_add ..).symm

/-- One entry's contribution: one when it is in use and names the page. -/
theorem entry (n : ℕ) (hn : n < 256) (ln e : BitVec 32) (p : ℕ) (hp : p < 512) :
    (FloatOps.sitofp (F := Ideal) .f32 (BitVec.setWidth 32 (IntOp.cmpi .eq (Scalar.select (IntOp.cmpi .slt (BitVec.ofNat 32 n) ln) e 4294967295#32)
      (BitVec.ofNat 32 p))) : EReal) = if (n : ℤ) < ln.toInt ∧ e = BitVec.ofNat 32 p then ((1 : ℝ) : EReal) else 0 := by
  have hn' : (BitVec.ofNat 32 n).toInt = n := by
    exact WordCmp.toInt_ofNat_of_lt (by omega)
  have hp' : (4294967295#32 : BitVec 32) ≠ BitVec.ofNat 32 p := fun h => by
    have := congrArg BitVec.toNat h
    simp at this; omega
  have one : FloatOps.sitofp (F := Ideal) .f32 (BitVec.setWidth 32 (BitVec.ofBool true)) = ((1 : ℝ) : EReal) :=
    show (((1 : ℤ) : ℝ) : EReal) = _ by rw [Int.cast_one]
  have none : FloatOps.sitofp (F := Ideal) .f32 (BitVec.setWidth 32 (BitVec.ofBool false)) = (0 : EReal) :=
    show (((0 : ℤ) : ℝ) : EReal) = _ by rw [Int.cast_zero]; rfl
  have st : ∀ a b : BitVec 32, Scalar.select (BitVec.ofBool true) a b = a := fun _ _ => rfl
  have sf : ∀ a b : BitVec 32, Scalar.select (BitVec.ofBool false) a b = b := fun _ _ => rfl
  rw [WordCmp.cmpi_slt_eq, hn']
  by_cases h1 : (n : ℤ) < ln.toInt
  · rw [decide_eq_true h1, st, WordCmp.cmpi_eq_eq]
    by_cases h2 : e = BitVec.ofNat 32 p
    · rw [if_pos ⟨h1, h2⟩, decide_eq_true h2, one]
    · rw [if_neg fun h => h2 h.2, decide_eq_false h2, none]
  · rw [if_neg fun h => h1 h.1, decide_eq_false h1, sf, WordCmp.cmpi_eq_eq, decide_eq_false hp', none]

/-- The page weights are counts. -/
theorem wTab_apply (c : Dev nD) (ln : Vec Ideal S32x1 .i32) (bt : Vec Ideal S32x256 .i32) (b : Fin 32) (t : Fin 512) :
    wTab c ln bt (ix2 b t) = (((reads ln bt b (page c ⟨t.val / 32, by omega⟩) : ℕ) : ℝ) : EReal) := by
  have hc : c.val < 32 := c.isLt
  pointwise [wTab, k0_pay3, k0_pay2]
  simp only [page_base]
  refine (Finset.sum_congr rfl fun x _ => entry x.val x.isLt _ _ (16 * c.val + t.val / 32) (by omega)).trans ?_
  rw [reads, ← nsmul_one, ← Finset.sum_const, Finset.sum_filter, coe_sum]
  refine Finset.sum_congr rfl fun x _ => ?_
  show _ = (((if used ln b x ∧ bt (ix2 b x) = BitVec.ofNat 32 (16 * c.val + t.val / 32) then 1 else 0 : ℝ)) : EReal)
  by_cases h : used ln b x ∧ bt (ix2 b x) = BitVec.ofNat 32 (16 * c.val + t.val / 32)
  · exact (if_pos h).trans (congrArg Real.toEReal (if_pos h)).symm
  · exact (if_neg h).trans (congrArg Real.toEReal (if_neg h)).symm

end Cert.PagedAttn

end
-- ==== Proof.Blocks.lean ====
/-
# The blocks each device reads

Device `c` works on sixteen consecutive pages of the whole key and value arrays, those from page `16 c` on. The keys, the
values and the queries of one head, as the device holds them, are entries of the whole arrays.
-/
module

public import proofs.«01_k».proof.Proof.Counts
public import proofs.«01_k».proof.Proof.Frames
public import Idealize.ShloMosaic.Lib.Layout

@[expose] public section

noncomputable section

namespace Cert.PagedAttn

open Cert.KernelIdeal Cert.KernelIdeal.Gen
open Idealize.ShloMosaic Idealize.ShloMosaic.TcCoe
open Idealize.ShloMosaic.Pointwise

/-- The whole page arrays. -/
abbrev SPages : Shape := ⟨4, ![512, 32, 16, 128]⟩

/-- The devices hold the whole arrays `Q`, `K`, `V`, `bt`, `ln`: the pages cut in two over the first mesh axis, the rest copied. -/
structure Holds (m : (ℓ : Loc nD τ sig) → Buf (Elt Ideal) ℓ) (Q : Vec Ideal S32x16x128 .f32) (K V : Vec Ideal SPages .f32)
    (bt : Vec Ideal S32x256 .i32) (ln : Vec Ideal S32x1 .i32) : Prop where
  q : ∀ c : Dev nD, m ((c : Thread nD τ).loc main_arg0) = Q
  k : ∀ c : Dev nD, m ((c : Thread nD τ).loc main_arg1) = Layout.blockN ⟨4, ![256, 32, 16, 128]⟩ ⟨4, ![512, 32, 16, 128]⟩ (Layout.meshBlock [2, 4, 4] ![[0], [], [], []] c) K
  v : ∀ c : Dev nD, m ((c : Thread nD τ).loc main_arg2) = Layout.blockN ⟨4, ![256, 32, 16, 128]⟩ ⟨4, ![512, 32, 16, 128]⟩ (Layout.meshBlock [2, 4, 4] ![[0], [], [], []] c) V
  b : ∀ c : Dev nD, m ((c : Thread nD τ).loc main_arg3) = bt
  l : ∀ c : Dev nD, m ((c : Thread nD τ).loc main_arg4) = ln

/-- A device's pages begin at page `16 c` of the whole array: its block's offset and its offset in the block. -/
theorem page_offset (c : Dev nD) : ((Layout.meshBlock [2, 4, 4] ![[0], [], [], []] c) (0 : Fin 4)).val * 256 + k0_off1 c 0 = 16 * c.val := by
  revert c; decide +kernel
theorem other_block (c : Dev nD) (a : Fin 4) (h : a ≠ 0) : ((Layout.meshBlock [2, 4, 4] ![[0], [], [], []] c) a).val = 0 := by
  revert c a; decide +kernel
theorem other_offset (c : Dev nD) (a : Fin 4) (h : a ≠ 0) : k0_off1 c a = 0 := by
  revert c a; decide +kernel

variable {m : (ℓ : Loc nD τ sig) → Buf (Elt Ideal) ℓ} {Q : Vec Ideal S32x16x128 .f32} {K V : Vec Ideal SPages .f32}
    {bt : Vec Ideal S32x256 .i32} {ln : Vec Ideal S32x1 .i32}

theorem headQ_apply (H : Holds m Q K V bt ln) (c : Dev nD) (h : Fin 16) (b : Fin 32) (x : Fin 128) :
    headQ m c h (ix3 b 0 x) = Q (ix3 b h x) := by
  unfold headQ
  rw [qv_eq, H.q]
  refine congrArg Q (funext fun a => Fin.ext ?_)
  match a with
  | 0 => exact (Nat.zero_add _).trans (Nat.one_mul _)
  | 1 => rfl
  | 2 => exact (Nat.zero_add _).trans (Nat.one_mul _)

theorem block_apply (A : Vec Ideal SPages .f32) (c : Dev nD) (h : Fin 16) (j : Fin 16) (t : Fin 32) (x : Fin 128) :
    (kM.view.slice (rHead h)).read (Elt Ideal) ((kSrc c).view.read (Elt Ideal)
      (Layout.blockN ⟨4, ![256, 32, 16, 128]⟩ ⟨4, ![512, 32, 16, 128]⟩ (Layout.meshBlock [2, 4, 4] ![[0], [], [], []] c) A)) (ix4 j t 0 x)
      = A (ix4 (page c j) t h x) := by
  have p0 := page_offset c
  have b1 := other_block c 1 (by decide); have b2 := other_block c 2 (by decide); have b3 := other_block c 3 (by decide)
  have o1 := other_offset c 1 (by decide); have o2 := other_offset c 2 (by decide); have o3 := other_offset c 3 (by decide)
  refine congrArg A (funext fun a => Fin.ext ?_)
  match a with
  | 0 =>
    show ((Layout.meshBlock [2, 4, 4] ![[0], [], [], []] c) (0 : Fin 4)).val * 256 + (k0_off1 c 0 + 1 * (0 + 1 * j.val)) = 16 * c.val + j.val
    omega
  | 1 =>
    show ((Layout.meshBlock [2, 4, 4] ![[0], [], [], []] c) (1 : Fin 4)).val * 32 + (k0_off1 c 1 + 1 * (0 + 1 * t.val)) = t.val
    omega
  | 2 =>
    show ((Layout.meshBlock [2, 4, 4] ![[0], [], [], []] c) (2 : Fin 4)).val * 16 + (k0_off1 c 2 + 1 * (h.val + 1 * 0)) = h.val
    omega
  | 3 =>
    show ((Layout.meshBlock [2, 4, 4] ![[0], [], [], []] c) (3 : Fin 4)).val * 128 + (k0_off1 c 3 + 1 * (0 + 1 * x.val)) = x.val
    omega

theorem headK_apply (H : Holds m Q K V bt ln) (c : Dev nD) (h : Fin 16) (j : Fin 16) (t : Fin 32) (x : Fin 128) :
    headK m c h (ix4 j t 0 x) = K (ix4 (page c j) t h x) := by
  unfold headK kv
  rw [H.k]
  exact block_apply K c h j t x

theorem headV_apply (H : Holds m Q K V bt ln) (c : Dev nD) (h : Fin 16) (j : Fin 16) (t : Fin 32) (x : Fin 128) :
    headV m c h (ix4 j t 0 x) = V (ix4 (page c j) t h x) := by
  unfold headV vv
  rw [H.v]
  exact block_apply V c h j t x

theorem wv_apply (H : Holds m Q K V bt ln) (c : Dev nD) (b : Fin 32) (t : Fin 512) :
    wv m c (ix2 b t) = (((reads ln bt b (page c ⟨t.val / 32, by omega⟩) : ℕ) : ℝ) : EReal) := by
  unfold wv
  rw [lnv_eq, btv_eq, H.b, H.l]
  exact wTab_apply c ln bt b t

/-! ## Every page has its device -/

theorem page_bijective : Function.Bijective fun y : Dev nD × Fin 16 => page y.1 y.2 := by
  constructor
  · rintro ⟨c, j⟩ ⟨c', j'⟩ h
    have h' : 16 * c.val + j.val = 16 * c'.val + j'.val := congrArg Fin.val h
    have e1 : c = c' := Fin.ext (by omega)
    have e2 : j = j' := Fin.ext (by omega)
    rw [e1, e2]
  · intro p
    refine ⟨⟨⟨p.val / 16, show _ < 32 by omega⟩, ⟨p.val % 16, by omega⟩⟩, Fin.ext ?_⟩
    show 16 * (p.val / 16) + p.val % 16 = p.val
    omega

end Cert.PagedAttn

end
-- ==== Proof.Total.lean ====
/-
# What the merges add up to

After five merges a device's partial result covers the pages of all devices, whatever the device. Counted page by page or
entry by entry of a page table, the sums are the same.
-/
module

public import proofs.«01_k».proof.Proof.Blocks

@[expose] public section

noncomputable section

namespace Cert.PagedAttn

open Cert.KernelIdeal Cert.KernelIdeal.Gen
open Idealize.ShloMosaic Idealize.ShloMosaic.TcCoe
open Idealize.ShloMosaic.Pointwise

/-! ## The devices a state covers -/

/-- The devices whose pages device `c`'s state covers after `n` merges. -/
def covers : ℕ → Dev nD → Finset (Dev nD)
  | 0, c => {c}
  | n + 1, c => covers n c ∪ covers n (ptr (Fin.ofNat 5 n) c)

/-- Two partners never cover a device twice. -/
theorem covers_disjoint (r : Fin 5) (c : Dev nD) : Disjoint (covers r.val c) (covers r.val (ptr r c)) := by
  revert r c; decide +kernel

/-- In the end every device is covered. -/
theorem covers_all (c : Dev nD) : covers 5 c = Finset.univ := by
  revert c; decide +kernel

theorem covers_succ (r : Fin 5) (c : Dev nD) : covers (r.val + 1) c = covers r.val c ∪ covers r.val (ptr r c) := by
  show covers r.val c ∪ covers r.val (ptr (Fin.ofNat 5 r.val) c) = _
  rw [show Fin.ofNat 5 r.val = r from Fin.ext (Nat.mod_eq_of_lt r.isLt)]

/-- The states after the merges hold the sums over the devices they cover. -/
theorem part_covers (m : (ℓ : Loc nD τ sig) → Buf (Elt Ideal) ℓ) (g : Fin 2) (b : Fin 32) (i : Fin 8) (d : Fin 128) (L : Dev nD → ℝ) (A : Dev nD → EReal)
    (h : ∀ c, Part ((st0 m c g).m (ix3 0 b i)) ((st0 m c g).l (ix3 0 b i)) ((st0 m c g).a (ix4 0 i b d)) (L c) (A c)) :
    ∀ (n : ℕ) (_ : n ≤ 5) (c : Dev nD), Part ((st m n c g).m (ix3 0 b i)) ((st m n c g).l (ix3 0 b i)) ((st m n c g).a (ix4 0 i b d))
      (∑ x ∈ covers n c, L x) (∑ x ∈ covers n c, A x) := by
  intro n
  induction n with
  | zero =>
    intro _ c
    rw [show covers 0 c = {c} from rfl, Finset.sum_singleton, Finset.sum_singleton]
    exact h c
  | succ n ih =>
    intro hn c
    have e := covers_succ ⟨n, hn⟩ c
    have e' := st_succ m ⟨n, hn⟩ c g
    have dj := covers_disjoint ⟨n, hn⟩ c
    dsimp only at e e' dj
    rw [e, e', merge_m, merge_l, merge_a, Finset.sum_union dj, Finset.sum_union dj]
    exact part_merge (ih (by omega) c) (ih (by omega) _)

/-! ## Regrouping -/

section
variable {M : Type*} [AddCommMonoid M]

/-- Positions counted in 32s. -/
theorem split_bijective (N A : ℕ) (h : N = A * 32) :
    Function.Bijective fun t : Fin N => ((⟨t.val / 32, by omega⟩, ⟨t.val % 32, by omega⟩) : Fin A × Fin 32) := by
  constructor
  · intro t t' e
    have e1 : t.val / 32 = t'.val / 32 := congrArg (fun y : Fin A × Fin 32 => y.1.val) e
    have e2 : t.val % 32 = t'.val % 32 := congrArg (fun y : Fin A × Fin 32 => y.2.val) e
    exact Fin.ext (by omega)
  · rintro ⟨a, t⟩
    refine ⟨⟨32 * a.val + t.val, by omega⟩, Prod.ext (Fin.ext ?_) (Fin.ext ?_)⟩
    · show (32 * a.val + t.val) / 32 = a.val; omega
    · show (32 * a.val + t.val) % 32 = t.val; omega

theorem sum_split (N A : ℕ) (h : N = A * 32) (f : Fin A → Fin 32 → M) :
    ∑ t : Fin N, f ⟨t.val / 32, by omega⟩ ⟨t.val % 32, by omega⟩ = ∑ a, ∑ t, f a t := by
  rw [← Fintype.sum_prod_type']
  exact (split_bijective N A h).sum_comp fun y : Fin A × Fin 32 => f y.1 y.2

theorem sum_pages (f : Fin 512 → M) : ∑ c : Dev nD, ∑ j : Fin 16, f (page c j) = ∑ p, f p := by
  rw [← Fintype.sum_prod_type' (f := fun c j => f (page c j))]
  exact page_bijective.sum_comp f

/-- The page that entry `n` of sequence `b` names. -/
def pick (bt : Vec Ideal S32x256 .i32) (b : Fin 32) (n : Fin 256) : Fin 512 := ⟨(bt (ix2 b n)).toNat % 512, Nat.mod_lt _ (by decide)⟩

/-- The entries in use name pages. -/
def TableOk (ln : Vec Ideal S32x1 .i32) (bt : Vec Ideal S32x256 .i32) : Prop :=
  ∀ b n, used ln b n → 0 ≤ (bt (ix2 b n)).toInt ∧ (bt (ix2 b n)).toInt < 512

theorem page_toNat (w : BitVec 32) (h : 0 ≤ w.toInt ∧ w.toInt < 512) : w.toNat < 512 ∧ w.toInt = w.toNat := by
  have e := BitVec.toInt_eq_toNat_cond w
  have := w.isLt
  split at e <;> omega

variable {ln : Vec Ideal S32x1 .i32} {bt : Vec Ideal S32x256 .i32}

theorem reads_eq (H : TableOk ln bt) (b : Fin 32) (p : Fin 512) :
    reads ln bt b p = (Finset.univ.filter fun n : Fin 256 => used ln b n ∧ pick bt b n = p).card := by
  refine congrArg Finset.card (Finset.filter_congr fun n _ => and_congr_right fun hu => ?_)
  have hn := (page_toNat _ (H b n hu)).1
  constructor
  · intro e
    refine Fin.ext ?_
    show (bt (ix2 b n)).toNat % 512 = p.val
    rw [e, BitVec.toNat_ofNat]; omega
  · intro e
    have e' : (bt (ix2 b n)).toNat % 512 = p.val := congrArg Fin.val e
    refine BitVec.eq_of_toNat_eq ?_
    rw [BitVec.toNat_ofNat]; omega

/-- Page by page, each as often as it is read, or token by token of the sequence. -/
theorem sum_tokens (H : TableOk ln bt) (b : Fin 32) (g : Fin 512 → Fin 32 → M) :
    ∑ c : Dev nD, ∑ t : Fin 512, reads ln bt b (page c ⟨t.val / 32, by omega⟩) • g (page c ⟨t.val / 32, by omega⟩) ⟨t.val % 32, by omega⟩
      = ∑ x : Fin 8192, if used ln b ⟨x.val / 32, by omega⟩ then g (pick bt b ⟨x.val / 32, by omega⟩) ⟨x.val % 32, by omega⟩ else 0 := by
  rw [sum_split 8192 256 (by decide) fun n t => if used ln b n then g (pick bt b n) t else 0]
  rw [Finset.sum_congr rfl fun c _ => sum_split 512 16 (by decide) fun j t => reads ln bt b (page c j) • g (page c j) t]
  rw [sum_pages fun p => ∑ t, reads ln bt b p • g p t]
  rw [Finset.sum_congr rfl fun p _ => (Finset.sum_nsmul Finset.univ (reads ln bt b p) (g p))]
  rw [Finset.sum_congr rfl fun p _ => by rw [reads_eq H b p], sum_picked (fun n => used ln b n) (pick bt b) fun p => ∑ t, g p t]
  refine Finset.sum_congr rfl fun n _ => ?_
  by_cases h : used ln b n
  · rw [if_pos h]; exact Finset.sum_congr rfl fun t _ => (if_pos h).symm
  · rw [if_neg h]; exact (Finset.sum_eq_zero fun t _ => if_neg h).symm

end

end Cert.PagedAttn

end
-- ==== Proof.KernelValue.lean ====
/-
# What the kernel computes

With finite queries and keys, page table entries in use that name pages, and at least one entry in use per sequence, every
device's result is the mean of the values over the sequence's tokens, weighted by the exponentials of the scores.
-/
module

public import proofs.«01_k».proof.Proof.Total

@[expose] public section

noncomputable section

namespace Cert.PagedAttn

open Cert.KernelIdeal Cert.KernelIdeal.Gen
open Idealize.ShloMosaic Idealize.ShloMosaic.TcCoe
open Idealize.ShloMosaic.Pointwise

/-! ## The statement's terms -/

/-- The score of the key at position `t` of page `p`, for head `h` of sequence `b`. -/
def sc (q : S32x16x128.Idx → ℝ) (k : SPages.Idx → ℝ) (b : Fin 32) (h : Fin 16) (p : Fin 512) (t : Fin 32) : ℝ :=
  (∑ x : Fin 128, q (ix3 b h x) * k (ix4 p t h x)) * (Real.sqrt 128)⁻¹

/-- The score of token `x` of sequence `b`, masked beyond the sequence's length. -/
def tokenScore (q : S32x16x128.Idx → ℝ) (k : SPages.Idx → ℝ) (bt : Vec Ideal S32x256 .i32) (ln : Vec Ideal S32x1 .i32)
    (b : Fin 32) (h : Fin 16) (x : Fin 8192) : EReal :=
  if used ln b ⟨x.val / 32, by omega⟩ then ((sc q k b h (pick bt b ⟨x.val / 32, by omega⟩) ⟨x.val % 32, by omega⟩ : ℝ) : EReal) else ⊥

/-- The value of token `x` of sequence `b`. -/
def tokenValue (V : Vec Ideal SPages .f32) (bt : Vec Ideal S32x256 .i32) (b : Fin 32) (h : Fin 16) (d : Fin 128) (x : Fin 8192) : EReal :=
  V (ix4 (pick bt b ⟨x.val / 32, by omega⟩) ⟨x.val % 32, by omega⟩ h d)

/-- The result: the weighted sum of the values over the sum of the weights. -/
def mean (q : S32x16x128.Idx → ℝ) (k : SPages.Idx → ℝ) (V : Vec Ideal SPages .f32) (bt : Vec Ideal S32x256 .i32) (ln : Vec Ideal S32x1 .i32)
    (b : Fin 32) (h : Fin 16) (d : Fin 128) : EReal :=
  (∑ x, ((ew (tokenScore q k bt ln b h x) : ℝ) : EReal) * tokenValue V bt b h d x) * (((∑ x, ew (tokenScore q k bt ln b h x))⁻¹ : ℝ) : EReal)

theorem tokenScore_ne_top (q : S32x16x128.Idx → ℝ) (k : SPages.Idx → ℝ) (bt : Vec Ideal S32x256 .i32) (ln : Vec Ideal S32x1 .i32)
    (b : Fin 32) (h : Fin 16) (x : Fin 8192) : tokenScore q k bt ln b h x ≠ ⊤ := by
  unfold tokenScore
  split
  · exact EReal.coe_ne_top _
  · exact bot_ne_top

/-- Every sequence has an entry in use. -/
def LengthOk (ln : Vec Ideal S32x1 .i32) : Prop := ∀ b, 1 ≤ (ln (ix2 b 0)).toInt

theorem tokenScore_first {ln : Vec Ideal S32x1 .i32} (hl : LengthOk ln) (q : S32x16x128.Idx → ℝ) (k : SPages.Idx → ℝ) (bt : Vec Ideal S32x256 .i32)
    (b : Fin 32) (h : Fin 16) : ∃ r : ℝ, tokenScore q k bt ln b h 0 = (r : EReal) := by
  have hu : used ln b ⟨(0 : Fin 8192).val / 32, by decide⟩ := by
    show (((0 : ℕ) : ℤ)) < _
    have := hl b
    omega
  exact ⟨_, if_pos hu⟩

theorem weights_pos {ln : Vec Ideal S32x1 .i32} (hl : LengthOk ln) (q : S32x16x128.Idx → ℝ) (k : SPages.Idx → ℝ) (bt : Vec Ideal S32x256 .i32)
    (b : Fin 32) (h : Fin 16) : 0 < ∑ x, ew (tokenScore q k bt ln b h x) := by
  obtain ⟨r, hr⟩ := tokenScore_first hl q k bt b h
  refine Finset.sum_pos' (fun _ _ => ew_nonneg) ⟨0, Finset.mem_univ _, ?_⟩
  rw [hr, ew_coe]
  exact Real.exp_pos r

/-! ## The local attention -/

variable {m : (ℓ : Loc nD τ sig) → Buf (Elt Ideal) ℓ} {q : S32x16x128.Idx → ℝ} {k : SPages.Idx → ℝ} {V : Vec Ideal SPages .f32}
    {bt : Vec Ideal S32x256 .i32} {ln : Vec Ideal S32x1 .i32}

/-- A device's scores are those of its pages. -/
theorem scores_local (H : Holds m (fun i => (q i : EReal)) (fun i => (k i : EReal)) V bt ln) (c : Dev nD) (h : Fin 16) (b : Fin 32) (t : Fin 512) :
    scores (headK m c h) (headQ m c h) (ix2 b t) = ((sc q k b h (page c ⟨t.val / 32, by omega⟩) ⟨t.val % 32, by omega⟩ : ℝ) : EReal) := by
  rw [scores_apply, sc, Finset.sum_mul, coe_sum]
  refine Finset.sum_congr rfl fun x _ => ?_
  rw [headQ_apply H, headK_apply H, ← EReal.coe_mul, ← EReal.coe_mul]
  congr 1
  ring

set_option maxRecDepth 100000 in
theorem st0_m (c : Dev nD) (g : Fin 2) : (st0 m c g).m = ofCols fun i => headM (headK m c (hd g i)) (headQ m c (hd g i)) := rfl
set_option maxRecDepth 100000 in
theorem st0_l (c : Dev nD) (g : Fin 2) : (st0 m c g).l = ofCols fun i => headL (wv m c) (headK m c (hd g i)) (headQ m c (hd g i)) := rfl
set_option maxRecDepth 100000 in
theorem st0_a (c : Dev nD) (g : Fin 2) :
    (st0 m c g).a = ofAccs fun i => headA (wv m c) (headK m c (hd g i)) (headV m c (hd g i)) (headQ m c (hd g i)) := rfl

/-- The local attention is the partial result of the device's pages, each counted as often as it is read. -/
theorem part_st0 (H : Holds m (fun i => (q i : EReal)) (fun i => (k i : EReal)) V bt ln) (g : Fin 2) (b : Fin 32) (i : Fin 8) (d : Fin 128) (c : Dev nD) :
    Part ((st0 m c g).m (ix3 0 b i)) ((st0 m c g).l (ix3 0 b i)) ((st0 m c g).a (ix4 0 i b d))
      (∑ t : Fin 512, reads ln bt b (page c ⟨t.val / 32, by omega⟩) •
        Real.exp (sc q k b (hd g i) (page c ⟨t.val / 32, by omega⟩) ⟨t.val % 32, by omega⟩))
      (∑ t : Fin 512, reads ln bt b (page c ⟨t.val / 32, by omega⟩) •
        (((Real.exp (sc q k b (hd g i) (page c ⟨t.val / 32, by omega⟩) ⟨t.val % 32, by omega⟩) : ℝ) : EReal)
          * V (ix4 (page c ⟨t.val / 32, by omega⟩) ⟨t.val % 32, by omega⟩ (hd g i) d))) := by
  have hs := fun t => scores_local H c (hd g i) b t
  have p := part_local (fun t => scores (headK m c (hd g i)) (headQ m c (hd g i)) (ix2 b t)) (fun t => by rw [hs t]; exact EReal.coe_ne_top _)
    (i := 0) (by rw [hs 0]; exact EReal.coe_ne_bot _)
    (fun t => ((reads ln bt b (page c ⟨t.val / 32, by omega⟩) : ℕ) : ℝ))
    (fun t => headV m c (hd g i) (ix4 ⟨t.val / 32, by omega⟩ ⟨t.val % 32, by omega⟩ 0 d))
  have eL : (∑ t : Fin 512, ew (scores (headK m c (hd g i)) (headQ m c (hd g i)) (ix2 b t)) * ((reads ln bt b (page c ⟨t.val / 32, by omega⟩) : ℕ) : ℝ))
      = ∑ t : Fin 512, reads ln bt b (page c ⟨t.val / 32, by omega⟩) •
        Real.exp (sc q k b (hd g i) (page c ⟨t.val / 32, by omega⟩) ⟨t.val % 32, by omega⟩) :=
    Finset.sum_congr rfl fun t _ => by rw [hs t, ew_coe, nsmul_eq_mul, mul_comm]
  have eA : (∑ t : Fin 512, ((ew (scores (headK m c (hd g i)) (headQ m c (hd g i)) (ix2 b t)) * ((reads ln bt b (page c ⟨t.val / 32, by omega⟩) : ℕ) : ℝ) : ℝ) : EReal)
        * headV m c (hd g i) (ix4 ⟨t.val / 32, by omega⟩ ⟨t.val % 32, by omega⟩ 0 d))
      = ∑ t : Fin 512, reads ln bt b (page c ⟨t.val / 32, by omega⟩) •
        (((Real.exp (sc q k b (hd g i) (page c ⟨t.val / 32, by omega⟩) ⟨t.val % 32, by omega⟩) : ℝ) : EReal)
          * V (ix4 (page c ⟨t.val / 32, by omega⟩) ⟨t.val % 32, by omega⟩ (hd g i) d)) :=
    Finset.sum_congr rfl fun t _ => by
      rw [hs t, ew_coe, headV_apply H, EReal.nsmul_eq_mul, mul_comm (Real.exp _), EReal.coe_mul, EReal.coe_natCast, mul_assoc]
  rw [eL, eA] at p
  have e1 : (st0 m c g).m (ix3 0 b i) = headM (headK m c (hd g i)) (headQ m c (hd g i)) (ix3 0 b 0) := by
    rw [st0_m]; exact ofCols_apply _ b i
  have e2 : (st0 m c g).l (ix3 0 b i) = headL (wv m c) (headK m c (hd g i)) (headQ m c (hd g i)) (ix3 0 b 0) := by
    rw [st0_l]; exact ofCols_apply _ b i
  have e3 : (st0 m c g).a (ix4 0 i b d) = headA (wv m c) (headK m c (hd g i)) (headV m c (hd g i)) (headQ m c (hd g i)) (ix4 0 0 b d) := by
    rw [st0_a]; exact ofAccs_apply _ b i d
  rw [e1, e2, e3, headM_apply, headL_apply, headA_apply]
  simp only [wv_apply H]
  exact p

/-! ## The result -/

/-- After all merges a device holds the partial result of all tokens. -/
theorem part_end (H : Holds m (fun i => (q i : EReal)) (fun i => (k i : EReal)) V bt ln) (T : TableOk ln bt) (g : Fin 2) (b : Fin 32) (i : Fin 8) (d : Fin 128)
    (c : Dev nD) :
    Part ((st m 5 c g).m (ix3 0 b i)) ((st m 5 c g).l (ix3 0 b i)) ((st m 5 c g).a (ix4 0 i b d))
      (∑ x, ew (tokenScore q k bt ln b (hd g i) x)) (∑ x, ((ew (tokenScore q k bt ln b (hd g i) x) : ℝ) : EReal) * tokenValue V bt b (hd g i) d x) := by
  have p := part_covers m g b i d _ _ (part_st0 H g b i d) 5 le_rfl c
  rw [covers_all, sum_tokens T b fun p t => Real.exp (sc q k b (hd g i) p t),
    sum_tokens T b fun p t => ((Real.exp (sc q k b (hd g i) p t) : ℝ) : EReal) * V (ix4 p t (hd g i) d)] at p
  have eL : ∀ x : Fin 8192, ew (tokenScore q k bt ln b (hd g i) x) = if used ln b ⟨x.val / 32, by omega⟩ then
      Real.exp (sc q k b (hd g i) (pick bt b ⟨x.val / 32, by omega⟩) ⟨x.val % 32, by omega⟩) else 0 := fun x => by
    unfold tokenScore
    split
    · rfl
    · rfl
  have eA : ∀ x : Fin 8192, ((ew (tokenScore q k bt ln b (hd g i) x) : ℝ) : EReal) * tokenValue V bt b (hd g i) d x
      = if used ln b ⟨x.val / 32, by omega⟩ then
        ((Real.exp (sc q k b (hd g i) (pick bt b ⟨x.val / 32, by omega⟩) ⟨x.val % 32, by omega⟩) : ℝ) : EReal)
          * V (ix4 (pick bt b ⟨x.val / 32, by omega⟩) ⟨x.val % 32, by omega⟩ (hd g i) d) else 0 := fun x => by
    rw [eL x]
    split
    · rfl
    · rw [EReal.coe_zero, zero_mul]
  rw [Finset.sum_congr rfl fun x _ => eL x, Finset.sum_congr rfl fun x _ => eA x]
  exact p

/-- Every device's result is the weighted mean. -/
theorem outv_apply (H : Holds m (fun i => (q i : EReal)) (fun i => (k i : EReal)) V bt ln) (T : TableOk ln bt) (hl : LengthOk ln) (c : Dev nD)
    (b : Fin 32) (h : Fin 16) (d : Fin 128) :
    outv m c (ix4 b 0 h d) = mean q k V bt ln b h d := by
  unfold outv
  rw [outOf_apply]
  have fin : ∀ (g : Fin 2) (i : Fin 8), Ideal.div ((st m 5 c g).a (ix4 0 i b d)) ((st m 5 c g).l (ix3 0 b i)) = mean q k V bt ln b (hd g i) d := fun g i =>
    part_div (part_end H T g b i d c) (weights_pos hl q k bt b (hd g i))
  by_cases h8 : h.val < 8
  · have e : hd 0 ⟨h.val, h8⟩ = h := Fin.ext (by show 8 * 0 + h.val = h.val; omega)
    have f := fin 0 ⟨h.val, h8⟩
    rw [e] at f
    rw [dif_pos h8, ← f]
    refine congrArg (fun y => Ideal.div y _) ?_
    show (st m 5 c ⟨h.val / 8, by omega⟩).a (ix4 0 ⟨h.val % 8, by omega⟩ b d) = _
    rw [show (⟨h.val / 8, by omega⟩ : Fin 2) = 0 from Fin.ext (Nat.div_eq_of_lt h8), show (⟨h.val % 8, by omega⟩ : Fin 8) = ⟨h.val, h8⟩ from Fin.ext (Nat.mod_eq_of_lt h8)]
  · have e : hd 1 ⟨h.val - 8, by omega⟩ = h := Fin.ext (by show 8 * 1 + (h.val - 8) = h.val; omega)
    have f := fin 1 ⟨h.val - 8, by omega⟩
    rw [e] at f
    rw [dif_neg h8, ← f]
    refine congrArg (fun y => Ideal.div y _) ?_
    show (st m 5 c ⟨h.val / 8, by omega⟩).a (ix4 0 ⟨h.val % 8, by omega⟩ b d) = _
    rw [show (⟨h.val / 8, by omega⟩ : Fin 2) = 1 from Fin.ext (by show h.val / 8 = 1; omega),
      show (⟨h.val % 8, by omega⟩ : Fin 8) = ⟨h.val - 8, by omega⟩ from Fin.ext (by show h.val % 8 = h.val - 8; omega)]

end Cert.PagedAttn

end
-- ==== Proof.Precond.lean ====
/-
# The precondition, read

On inputs that the precondition accepts the queries and keys are finite, every sequence has a token, and the page table
entries in use name pages.
-/
module

public import proofs.«01_k».proof.Proof.KernelValue
public import proofs.«01_k».proof.Proof.Gen.Pre_well_formed_KernelIdeal
public import Idealize.ShloMosaic.Lib.ReduceAll
public import proofs.«01_k».proof.Defs

@[expose] public section

noncomputable section

namespace Cert.PagedAttn

open Idealize.ShloMosaic Idealize.ShloMosaic.TcCoe
open Idealize.ShloMosaic.Pointwise

/-- An extended real whose absolute value is below infinity is a real. -/
theorem real_of_abs_lt {x : EReal} (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have h' : BitVec.ofBool (decide (max x (-x) < (⊤ : EReal))) = 1#1 := h
  have hlt : max x (-x) < (⊤ : EReal) := by
    by_contra hn
    rw [decide_eq_false hn] at h'
    exact absurd h' (by decide)
  have h1 := (max_lt_iff.1 hlt).1
  have h2 := (max_lt_iff.1 hlt).2
  refine (EReal.coe_toReal h1.ne ?_).symm
  rintro rfl
  exact absurd h2 (by simp)

theorem of_bool {p : Prop} [Decidable p] (h : BitVec.ofBool (decide p) = 1#1) : p := by
  by_contra hn
  rw [decide_eq_false hn] at h
  exact absurd h (by decide)

section
open Cert.Pre_well_formed_KernelIdeal

attribute [local instance] Cert.Pre_well_formed_KernelIdeal.Gen.facts

/-- What the precondition says of one device's inputs. -/
theorem pre_apply (Q : FVec Ideal S32x16x128 .f32) (K V : FVec Ideal S256x32x16x128 .f32) (bt : IVec S32x256 32) (ln : IVec S32x1 32)
    (h : fn (F := Ideal) Q K V bt ln = fun _ => 1#1) :
    (∀ i, Q i = (((Q i).toReal : ℝ) : EReal)) ∧ (∀ i, K i = (((K i).toReal : ℝ) : EReal)) ∧ LengthOk ln ∧ TableOk ln bt := by
  have h0 := congrFun h ix0
  unfold fn fn_part1 at h0
  obtain ⟨h1, hbt⟩ := IntOp.andi_eq_one.1 h0
  obtain ⟨h2, hln⟩ := IntOp.andi_eq_one.1 h1
  obtain ⟨hQ, hK⟩ := IntOp.andi_eq_one.1 h2
  haveI : Subsingleton S_.Idx := ⟨fun a b => funext fun x => x.elim0⟩
  refine ⟨fun i => ?_, fun i => ?_, fun b => ?_, fun b n hu => ?_⟩
  · exact real_of_abs_lt (Host.reduce_andi_all _ _ _ _ _ hQ i)
  · exact real_of_abs_lt (Host.reduce_andi_all _ _ _ _ _ hK i)
  · have e := Host.reduce_andi_all _ _ _ _ _ hln (ix2 b 0)
    exact of_bool (p := (1#32 : BitVec 32).toInt ≤ (ln (ix2 b 0)).toInt) e
  · have e := Host.reduce_andi_all _ _ _ _ _ hbt (ix2 b n)
    rcases IntOp.ori_eq_one.1 e with e | e
    · obtain ⟨e1, e2⟩ := IntOp.andi_eq_one.1 e
      exact ⟨of_bool (p := (0#32 : BitVec 32).toInt ≤ (bt (ix2 b n)).toInt) e1, of_bool (p := (bt (ix2 b n)).toInt < (512#32 : BitVec 32).toInt) e2⟩
    · have e' : ~~~ (IntOp.cmpi .slt (BitVec.ofNat 32 n.val) (ln (ix2 b 0))) = 1#1 := by
        pointwise at e
        exact e
      rw [WordCmp.cmpi_slt_eq, WordCmp.toInt_ofNat_of_lt (by omega), decide_eq_true (show (n.val : ℤ) < (ln (ix2 b 0)).toInt from hu)] at e'
      exact absurd e' (by decide)

end

end Cert.PagedAttn

end
-- ==== Proof.RefValue.lean ====
/-
# What the reference computes

The reference gathers each sequence's pages by its page table, scores every token, masks those beyond the sequence's length
and takes the mean of the values under the normalised exponentials. On the inputs of the claim this is the same weighted mean.
-/
module

public import proofs.«01_k».proof.Proof.Gen.ReferenceIdeal.Run
public import proofs.«01_k».proof.Proof.KernelValue

@[expose] public section

noncomputable section

namespace Cert.PagedAttn

open Cert.ReferenceIdeal Cert.ReferenceIdeal.Gen
open Idealize.ShloMosaic Idealize.ShloMosaic.TcCoe
open Idealize.ShloMosaic.Pointwise

/-! ## The gather -/

abbrev pageGather := gather_S512x32x16x128_S32x256x1_S32x256x32x16x128_234_0_n_n_0_2_13216128

/-- The gather reads the page its index names, clamped to the pages. -/
theorem gather_page (x : Vec Ideal S512x32x16x128 .f32) (idx : IVec S32x256x1 32) (b : Fin 32) (n : Fin 256) (t : Fin 32) (h : Fin 16) (d : Fin 128) :
    Host.gather pageGather x idx (ix5 b n t h d) = x (ix4 ⟨min (idx (ix3 b n 0)).toInt.toNat 511, by omega⟩ t h d) := by
  refine congrArg x (funext fun a => Fin.ext ?_)
  match a with
  | 0 =>
    show pageGather.start _ idx 0 + pageGather.batchCoord _ 0 + pageGather.offCoord _ 0 = min (idx (ix3 b n 0)).toInt.toNat 511
    have e1 : pageGather.batchCoord (ix5 b n t h d) 0 = 0 := rfl
    have e2 : pageGather.offCoord (ix5 b n t h d) 0 = 0 := rfl
    have e3 : pageGather.start (ix5 b n t h d) idx 0 = min (idx (ix3 b n 0)).toInt.toNat 511 := by
      show min (idx _).toInt.toNat 511 = _
      congr 4
      funext a
      match a with
      | 0 => rfl
      | 1 => rfl
      | 2 => rfl
    omega
  | 1 => exact Nat.zero_add _
  | 2 => exact Nat.zero_add _
  | 3 => exact Nat.zero_add _

/-- The gather's indices: the page table, a negative entry counted from the end. -/
def pageIdx (bt : Vec Ideal S32x256 .i32) : IVec S32x256x1 32 :=
  broadcastInDim S32x256x1 ![0, 1] bcast_S32x256_S32x256x1_0_1
    (select (cmpi .slt bt (broadcastInDim S32x256 ![] bcast_S_S32x256 (constantI S_ 32 0#32)))
      (addi bt (broadcastInDim S32x256 ![] bcast_S_S32x256 (constantI S_ 32 512#32))) bt)

theorem pageIdx_apply (bt : Vec Ideal S32x256 .i32) (b : Fin 32) (n : Fin 256) (h : 0 ≤ (bt (ix2 b n)).toInt) :
    pageIdx bt (ix3 b n 0) = bt (ix2 b n) := by
  have e : pageIdx bt (ix3 b n 0) = Scalar.select (IntOp.cmpi .slt (bt (ix2 b n)) 0#32) (IntOp.addi (bt (ix2 b n)) 512#32) (bt (ix2 b n)) := by
    pointwise [pageIdx]
  rw [e, WordCmp.cmpi_slt_eq, decide_eq_false (by rw [BitVec.toInt_zero]; omega)]
  rfl

/-- The array the reference gathers: token `t` of the `n`-th page of sequence `b`. -/
def gathered (A : Vec Ideal S512x32x16x128 .f32) (bt : Vec Ideal S32x256 .i32) (b : Fin 32) (n : Fin 256) (t : Fin 32) (h : Fin 16) (d : Fin 128) : EReal :=
  Host.gather pageGather A (pageIdx bt) (ix5 b n t h d)

theorem gathered_apply (A : Vec Ideal S512x32x16x128 .f32) {bt : Vec Ideal S32x256 .i32} {ln : Vec Ideal Cert.KernelIdeal.S32x1 .i32} (T : TableOk ln bt)
    (b : Fin 32) (n : Fin 256) (hu : used ln b n) (t : Fin 32) (h : Fin 16) (d : Fin 128) :
    gathered A bt b n t h d = A (ix4 (pick bt b n) t h d) := by
  have hb := T b n hu
  have hn := page_toNat _ hb
  unfold gathered
  rw [gather_page]
  refine congrArg (fun p => A (ix4 p t h d)) (Fin.ext ?_)
  show min (pageIdx bt (ix3 b n 0)).toInt.toNat 511 = (bt (ix2 b n)).toNat % 512
  rw [pageIdx_apply bt b n hb.1]
  omega

/-! ## The scores and the result -/

/-- The reference's masked score of token `x`. -/
def refScore (Q : Vec Ideal S32x16x128 .f32) (K : Vec Ideal S512x32x16x128 .f32) (bt : Vec Ideal S32x256 .i32) (ln : Vec Ideal Cert.KernelIdeal.S32x1 .i32)
    (b : Fin 32) (h : Fin 16) (x : Fin 8192) : EReal :=
  Scalar.select (IntOp.cmpi .slt (BitVec.ofNat 32 (x.val / 32)) (ln (ix2 b 0)))
    (Ideal.div (∑ y : Fin 128, Q (ix3 b h y) * gathered K bt b ⟨x.val / 32, by omega⟩ ⟨x.val % 32, by omega⟩ h y)
      (Ideal.sqrt (Ideal.ofBits .f32 1124073472#32))) (Ideal.ofBits .f32 4286578688#32)

set_option maxRecDepth 100000 in
/-- The reference's result at one entry. -/
theorem ref_apply (m : (ℓ : Loc nD τ sig) → Buf (Elt Ideal) ℓ) (b : Fin 32) (h : Fin 16) (d : Fin 128) :
    (Value.res_main_v37 m 0 : Vec Ideal S32x1x16x128 .f32) (ix4 b 0 h d)
      = ∑ x : Fin 8192, Ideal.div
          (Ideal.exp (refScore (m ((Dev.tc 0).loc main_arg0)) (m ((Dev.tc 0).loc main_arg1)) (m ((Dev.tc 0).loc main_arg3)) (m ((Dev.tc 0).loc main_arg4)) b h x
            - (Finset.univ : Finset (Fin 8192)).fold max ⊥ (refScore (m ((Dev.tc 0).loc main_arg0)) (m ((Dev.tc 0).loc main_arg1)) (m ((Dev.tc 0).loc main_arg3)) (m ((Dev.tc 0).loc main_arg4)) b h)))
          (∑ y : Fin 8192, Ideal.exp (refScore (m ((Dev.tc 0).loc main_arg0)) (m ((Dev.tc 0).loc main_arg1)) (m ((Dev.tc 0).loc main_arg3)) (m ((Dev.tc 0).loc main_arg4)) b h y
            - (Finset.univ : Finset (Fin 8192)).fold max ⊥ (refScore (m ((Dev.tc 0).loc main_arg0)) (m ((Dev.tc 0).loc main_arg1)) (m ((Dev.tc 0).loc main_arg3)) (m ((Dev.tc 0).loc main_arg4)) b h)))
          * gathered (m ((Dev.tc 0).loc main_arg2)) (m ((Dev.tc 0).loc main_arg3)) b ⟨x.val / 32, by omega⟩ ⟨x.val % 32, by omega⟩ h d := by
  pointwise [Value.res_main_v37]
  rw [← neg_inf]
  rfl

/-- On finite queries and keys the reference's score is the token's score. -/
theorem refScore_eq (q : S32x16x128.Idx → ℝ) (k : S512x32x16x128.Idx → ℝ) {bt : Vec Ideal S32x256 .i32} {ln : Vec Ideal Cert.KernelIdeal.S32x1 .i32}
    (T : TableOk ln bt) (b : Fin 32) (h : Fin 16) (x : Fin 8192) :
    refScore (fun i => (q i : EReal)) (fun i => (k i : EReal)) bt ln b h x = tokenScore q k bt ln b h x := by
  have st : ∀ a b : EReal, Scalar.select (BitVec.ofBool true) a b = a := fun _ _ => rfl
  have sf : ∀ a b : EReal, Scalar.select (BitVec.ofBool false) a b = b := fun _ _ => rfl
  unfold refScore tokenScore
  rw [WordCmp.cmpi_slt_eq, WordCmp.toInt_ofNat_of_lt (by omega)]
  by_cases hu : used ln b ⟨x.val / 32, by omega⟩
  · rw [decide_eq_true (show ((x.val / 32 : ℕ) : ℤ) < (ln (ix2 b 0)).toInt from hu), st, if_pos hu, head_size, Ideal.sqrt_coe, if_neg (by norm_num),
      Ideal.div_coe (Real.sqrt_ne_zero'.2 (by norm_num)), sc, EReal.coe_mul, coe_sum, one_div]
    refine congrArg (fun y => y * _) (Finset.sum_congr rfl fun y _ => ?_)
    rw [gathered_apply _ T b _ hu, EReal.coe_mul]
  · rw [decide_eq_false (show ¬ ((x.val / 32 : ℕ) : ℤ) < (ln (ix2 b 0)).toInt from hu), sf, if_neg hu, neg_inf]

/-- The reference's result is the weighted mean. -/
theorem ref_mean (m : (ℓ : Loc nD τ sig) → Buf (Elt Ideal) ℓ) (q : S32x16x128.Idx → ℝ) (k : S512x32x16x128.Idx → ℝ)
    (hq : m ((Dev.tc 0).loc main_arg0) = fun i => (q i : EReal)) (hk : m ((Dev.tc 0).loc main_arg1) = fun i => (k i : EReal))
    (T : TableOk (m ((Dev.tc 0).loc main_arg4)) (m ((Dev.tc 0).loc main_arg3))) (hl : LengthOk (m ((Dev.tc 0).loc main_arg4)))
    (b : Fin 32) (h : Fin 16) (d : Fin 128) :
    (Value.res_main_v37 m 0 : Vec Ideal S32x1x16x128 .f32) (ix4 b 0 h d)
      = mean q k (m ((Dev.tc 0).loc main_arg2)) (m ((Dev.tc 0).loc main_arg3)) (m ((Dev.tc 0).loc main_arg4)) b h d := by
  refine (ref_apply m b h d).trans ?_
  rw [hq, hk, show refScore (fun i => (q i : EReal)) (fun i => (k i : EReal)) (m ((Dev.tc 0).loc main_arg3)) (m ((Dev.tc 0).loc main_arg4)) b h = _ from
    funext fun x => refScore_eq q k T b h x]
  obtain ⟨r, hr⟩ := tokenScore_first hl q k (m ((Dev.tc 0).loc main_arg3)) b h
  rw [softmax_mean _ (fun x => tokenScore_ne_top q k _ _ b h x) (i := 0) (by rw [hr]; exact EReal.coe_ne_bot r) _ (weights_pos hl q k _ b h)]
  have key : ∀ x : Fin 8192, ((ew (tokenScore q k (m ((Dev.tc 0).loc main_arg3)) (m ((Dev.tc 0).loc main_arg4)) b h x) : ℝ) : EReal)
        * gathered (m ((Dev.tc 0).loc main_arg2)) (m ((Dev.tc 0).loc main_arg3)) b ⟨x.val / 32, by omega⟩ ⟨x.val % 32, by omega⟩ h d
      = ((ew (tokenScore q k (m ((Dev.tc 0).loc main_arg3)) (m ((Dev.tc 0).loc main_arg4)) b h x) : ℝ) : EReal)
        * tokenValue (m ((Dev.tc 0).loc main_arg2)) (m ((Dev.tc 0).loc main_arg3)) b h d x := fun x => by
    by_cases hu : used (m ((Dev.tc 0).loc main_arg4)) b ⟨x.val / 32, by omega⟩
    · rw [gathered_apply _ T b _ hu]; rfl
    · rw [show tokenScore q k (m ((Dev.tc 0).loc main_arg3)) (m ((Dev.tc 0).loc main_arg4)) b h x = ⊥ from if_neg hu, ew_bot, EReal.coe_zero, zero_mul, zero_mul]
  rw [Finset.sum_congr rfl fun x _ => key x, mean]

end Cert.PagedAttn

end
-- ==== Proof.Equal.lean ====
/-
# The kernel computes what the reference computes

On inputs the precondition accepts, every device's result is the reference's, entry by entry: both are the weighted mean.
-/
module

public import proofs.«01_k».proof.Proof.Precond
public import proofs.«01_k».proof.Proof.RefValue

@[expose] public section

noncomputable section

namespace Cert.PagedAttn

open Idealize.ShloMosaic Idealize.ShloMosaic.TcCoe
open Idealize.SL Idealize.SL.Sem
open Idealize.ShloMosaic.Pointwise

section
open Cert.KernelIdeal Cert.KernelIdeal.Gen

/-- Finite blocks on every device make the whole array finite: each page is some device's. -/
theorem keys_real {m : (ℓ : Loc nD τ sig) → Buf (Elt Ideal) ℓ} {Q : Vec Ideal S32x16x128 .f32} {K V : Vec Ideal SPages .f32}
    {bt : Vec Ideal S32x256 .i32} {ln : Vec Ideal S32x1 .i32} (H : Holds m Q K V bt ln)
    (hf : ∀ (c : Dev nD) i, ∃ r : ℝ, (m ((c : Thread nD τ).loc main_arg1) : Vec Ideal S256x32x16x128 .f32) i = (r : EReal)) :
    K = fun i => (((K i).toReal : ℝ) : EReal) := by
  have key : ∀ p t h x, ∃ r : ℝ, K (ix4 p t h x) = (r : EReal) := fun p t h x => by
    obtain ⟨⟨c, j⟩, hp⟩ := page_bijective.2 p
    have hp' : page c j = p := hp
    have e := headK_apply H c h j t x
    rw [hp'] at e
    rw [← e]
    exact hf c _
  funext i
  have hi : i = ix4 (i 0) (i 1) (i 2) (i 3) := funext fun a => match a with | 0 => rfl | 1 => rfl | 2 => rfl | 3 => rfl
  obtain ⟨r, hr⟩ := key (i 0) (i 1) (i 2) (i 3)
  have hr' : K i = (r : EReal) := (congrArg K hi).trans hr
  rw [hr']; rfl
end

/-- Every device's result is the reference's. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : @Cert.Pre_KernelIdeal_well_formed_KernelIdeal Cert.Pre_well_formed_KernelIdeal.Gen.facts m)
    (H : Holds m (m' ((Dev.tc 0).loc Cert.ReferenceIdeal.main_arg0)) (m' ((Dev.tc 0).loc Cert.ReferenceIdeal.main_arg1))
      (m' ((Dev.tc 0).loc Cert.ReferenceIdeal.main_arg2)) (m' ((Dev.tc 0).loc Cert.ReferenceIdeal.main_arg3)) (m' ((Dev.tc 0).loc Cert.ReferenceIdeal.main_arg4)))
    (c : Dev Cert.KernelIdeal.nD) : outv m c = Cert.ReferenceIdeal.Value.res_main_v37 m' 0 := by
  have P := fun c => pre_apply _ _ _ _ _ (hp c)
  have hq : m' ((Dev.tc 0).loc Cert.ReferenceIdeal.main_arg0) = fun i => (((m' ((Dev.tc 0).loc Cert.ReferenceIdeal.main_arg0) i : EReal).toReal : ℝ) : EReal) := by
    have e := (P 0).1
    rw [H.q 0] at e
    exact funext e
  have hk := keys_real H fun c i => ⟨_, (P c).2.1 i⟩
  have hl := (P 0).2.2.1
  rw [H.l 0] at hl
  have T := (P 0).2.2.2
  rw [H.l 0, H.b 0] at T
  have H' := H
  rw [hq, hk] at H'
  funext i
  have hi : i = ix4 (i 0) 0 (i 2) (i 3) := funext fun a => match a with
    | 0 => rfl
    | 1 => Fin.ext (by have := (i 1).isLt; have : (i 1).val < 1 := this; show (i 1).val = 0; omega)
    | 2 => rfl
    | 3 => rfl
  rw [hi]
  exact (outv_apply H' T hl c (i 0) (i 2) (i 3)).trans (ref_mean m' _ _ hq hk T hl (i 0) (i 2) (i 3)).symm

/-- The two programs agree. -/
theorem agree : @Cert.algebraic_KernelIdeal_ReferenceIdeal_pre_well_formed_KernelIdeal Cert.KernelIdeal.Gen.facts Cert.ReferenceIdeal.Gen.facts
    Cert.Pre_well_formed_KernelIdeal.Gen.facts := by
  intro m g m' g' hp hin
  have H : Holds m (m' ((Dev.tc 0).loc Cert.ReferenceIdeal.main_arg0)) (m' ((Dev.tc 0).loc Cert.ReferenceIdeal.main_arg1))
      (m' ((Dev.tc 0).loc Cert.ReferenceIdeal.main_arg2)) (m' ((Dev.tc 0).loc Cert.ReferenceIdeal.main_arg3)) (m' ((Dev.tc 0).loc Cert.ReferenceIdeal.main_arg4)) :=
    ⟨fun c => (hin c).1, fun c => (hin c).2.1, fun c => (hin c).2.2.1, fun c => (hin c).2.2.2.1, fun c => (hin c).2.2.2.2⟩
  exact ⟨Cert.ReferenceIdeal.Value.res_main_v37 m' 0,
    (θ_run _ _ _).mono (fun r hr c => ⟨(hr.1 c).1.trans (results_equal m m' hp H c), (hr.1 c).2⟩) (run_end (F := Ideal) m g),
    (θ_run _ _ _).mono (fun r hr => hr 0) (Cert.ReferenceIdeal.Value.run (F := Ideal) m' g')⟩

end Cert.PagedAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_formed_KernelIdeal
public import proofs.«01_k».proof.Proof.Gen.Pre_well_formed_ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames, the named constant, and the equality of the results. -/
theorem claim : Cert.Claim := ⟨Cert.Kernel.Gen.facts, Cert.KernelIdeal.Gen.facts, Cert.ReferenceIdeal.Gen.facts,
  Cert.Pre_well_formed_KernelIdeal.Gen.facts, Cert.Pre_well_formed_ReferenceIdeal.Gen.facts,
  Cert.PagedAttn.frame_bits, Cert.PagedAttn.frame_ideal, fun m g _ => Cert.PagedAttn.frame_ideal m g trivial,
  Cert.PagedAttn.frame_reference, fun m g _ => Cert.PagedAttn.frame_reference m g trivial,
  IdealRules.named_const.statement Cert.KernelIdeal.κ "inv_sqrt_d" .f32 0x3DB504F3#32 (((Real.sqrt 128)⁻¹ : ℝ) : EReal) rfl,
  Cert.PagedAttn.agree⟩

end Cert.Proof

end
